-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite_edges_full [hPre_logits_finite_edges_full : Cert.Pre_logits_finite_edges_full.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite_edges_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite_edges_full [hPre_logits_finite_edges_full : Cert.Pre_logits_finite_edges_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite_edges_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_logits_finite_edges_full [hKernelIdeal : Cert.KernelIdeal.Facts] [hPre_logits_finite_edges_full : Cert.Pre_logits_finite_edges_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite_edges_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_logits_finite_edges_full [hReferenceIdeal : Cert.ReferenceIdeal.Facts] [hPre_logits_finite_edges_full : Cert.Pre_logits_finite_edges_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite_edges_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2e_over_root" .f32 0x3E8293EE#32 (((Real.log 2)⁻¹ * (Real.sqrt 32)⁻¹ : ℝ) : EReal)

def algebraic_KernelIdeal_ReferenceIdeal_pre_logits_finite_edges_full [hKernelIdeal : Cert.KernelIdeal.Facts] [hReferenceIdeal : Cert.ReferenceIdeal.Facts] [hPre_logits_finite_edges_full : Cert.Pre_logits_finite_edges_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite_edges_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_logits_finite_edges_full : Cert.Pre_logits_finite_edges_full.Facts),
    quiescent_Kernel (hKernel := hKernel)
    ∧ quiescent_KernelIdeal (hKernelIdeal := hKernelIdeal)
    ∧ quiescent_KernelIdeal_pre_logits_finite_edges_full (hKernelIdeal := hKernelIdeal) (hPre_logits_finite_edges_full := hPre_logits_finite_edges_full)
    ∧ quiescent_ReferenceIdeal (hReferenceIdeal := hReferenceIdeal)
    ∧ quiescent_ReferenceIdeal_pre_logits_finite_edges_full (hReferenceIdeal := hReferenceIdeal) (hPre_logits_finite_edges_full := hPre_logits_finite_edges_full)
    ∧ preserves_Kernel_KernelIdeal
    ∧ algebraic_KernelIdeal_ReferenceIdeal_pre_logits_finite_edges_full (hKernelIdeal := hKernelIdeal) (hReferenceIdeal := hReferenceIdeal) (hPre_logits_finite_edges_full := hPre_logits_finite_edges_full)
-- ==== Pre_logits_finite_edges_full.lean ====
abbrev S1024x256 : Shape := ⟨2, ![1024, 256]⟩
abbrev S1024 : Shape := ⟨1, ![1024]⟩
abbrev S2x131072 : Shape := ⟨2, ![2, 131072]⟩
abbrev S256x256 : Shape := ⟨2, ![256, 256]⟩
abbrev S768 : Shape := ⟨1, ![768]⟩
abbrev S256 : Shape := ⟨1, ![256]⟩
abbrev S8x128x128 : Shape := ⟨3, ![8, 128, 128]⟩
abbrev S_ : Shape := ⟨0, ![]⟩
abbrev S512 : Shape := ⟨1, ![512]⟩
abbrev S1x131072 : Shape := ⟨2, ![1, 131072]⟩
abbrev S131072 : Shape := ⟨1, ![131072]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  slices_S768_S512_0 : S768.Slices ![0] S512
  bcast_S_S512 : S_.BroadcastsInDim S512 (![] : Fin 0 → Fin S512.rank)
  reducesTo_S512_S_d0 : S512.ReducesTo [0] S_
  slices_S2x131072_S1x131072_0_0 : S2x131072.Slices ![0, 0] S1x131072
  shapeCasts_S1x131072_S131072 : S1x131072.ShapeCasts S131072
  shapeCasts_S131072_S8x128x128 : S131072.ShapeCasts S8x128x128
  bcast_S_S8x128x128 : S_.BroadcastsInDim S8x128x128 (![] : Fin 0 → Fin S8x128x128.rank)
  reducesTo_S8x128x128_S_d0_1_2 : S8x128x128.ReducesTo [0, 1, 2] S_
  slices_S2x131072_S1x131072_1_0 : S2x131072.Slices ![1, 0] S1x131072

variable [Facts]

def fn_part2 {F : FTy → Type} [FloatOps F] (main_arg5 : IVec S2x131072 32) (main_v0 : IVec S8x128x128 32) (main_v2 : IVec S8x128x128 32) (main_v27 : IVec S_ 1) (main_v35 : IVec S_ 1) : IVec S_ 1 :=
  let main_v36 : IVec S_ 1 := andi main_v27 main_v35
  let main_v37 : IVec S1x131072 32 := (extractStridedSlice S1x131072 ![1, 0] · slices_S2x131072_S1x131072_1_0) main_arg5
  let main_v38 : IVec S131072 32 := shapeCast S131072 main_v37 shapeCasts_S1x131072_S131072
  let main_v39 : IVec S8x128x128 32 := shapeCast S8x128x128 main_v38 shapeCasts_S131072_S8x128x128
  let main_c_10 : IVec S_ 32 := constantI S_ 32 128#32
  let main_v40 : IVec S8x128x128 32 := broadcastInDim S8x128x128 ![] bcast_S_S8x128x128 main_c_10
  let main_v41 : IVec S8x128x128 32 := muli main_v0 main_v40
  let main_v42 : IVec S8x128x128 32 := addi main_v41 main_v2
  let main_v43 : IVec S8x128x128 1 := cmpi .eq main_v39 main_v42
  let main_c_11 : IVec S_ 1 := constantI S_ 1 1#1
  let main_v44 : IVec S_ 1 := (fun x v => Host.reduce IntOp.andi x v reducesTo_S8x128x128_S_d0_1_2 h_S_) main_v43 main_c_11
  let main_v45 : IVec S_ 1 := andi main_v36 main_v44
  main_v45

def fn_part1 {F : FTy → Type} [FloatOps F] (main_arg5 : IVec S2x131072 32) (main_arg9 : FVec F S768 .f32) (main_v0 : IVec S8x128x128 32) (main_v1 : IVec S8x128x128 32) (main_v2 : IVec S8x128x128 32) (main_v16 : IVec S_ 1) (main_v17 : FVec F S256x256 .f32) : IVec S_ 1 :=
  let main_cst_4 : FVec F S_ .f32 := constant S_ .f32 0x7F800000#32
  let main_v18 : FVec F S256x256 .f32 := broadcastInDim S256x256 ![] bcast_S_S256x256 main_cst_4
  let main_v19 : IVec S256x256 1 := cmpf .olt main_v17 main_v18
  let main_c_5 : IVec S_ 1 := constantI S_ 1 1#1
  let main_v20 : IVec S_ 1 := (fun x v => Host.reduce IntOp.andi x v reducesTo_S256x256_S_d0_1 h_S_) main_v19 main_c_5
  let main_v21 : IVec S_ 1 := andi main_v16 main_v20
  let main_v22 : FVec F S512 .f32 := (extractStridedSlice S512 ![0] · slices_S768_S512_0) main_arg9
  let main_v23 : FVec F S512 .f32 := Host.absf main_v22
  let main_cst_6 : FVec F S_ .f32 := constant S_ .f32 0x7F800000#32
  let main_v24 : FVec F S512 .f32 := broadcastInDim S512 ![] bcast_S_S512 main_cst_6
  let main_v25 : IVec S512 1 := cmpf .olt main_v23 main_v24
  let main_c_7 : IVec S_ 1 := constantI S_ 1 1#1
  let main_v26 : IVec S_ 1 := (fun x v => Host.reduce IntOp.andi x v reducesTo_S512_S_d0 h_S_) main_v25 main_c_7
  let main_v27 : IVec S_ 1 := andi main_v21 main_v26
  let main_v28 : IVec S1x131072 32 := (extractStridedSlice S1x131072 ![0, 0] · slices_S2x131072_S1x131072_0_0) main_arg5
  let main_v29 : IVec S131072 32 := shapeCast S131072 main_v28 shapeCasts_S1x131072_S131072
  let main_v30 : IVec S8x128x128 32 := shapeCast S8x128x128 main_v29 shapeCasts_S131072_S8x128x128
  let main_c_8 : IVec S_ 32 := constantI S_ 32 128#32
  let main_v31 : IVec S8x128x128 32 := broadcastInDim S8x128x128 ![] bcast_S_S8x128x128 main_c_8
  let main_v32 : IVec S8x128x128 32 := muli main_v0 main_v31
  let main_v33 : IVec S8x128x128 32 := addi main_v32 main_v1
  let main_v34 : IVec S8x128x128 1 := cmpi .eq main_v30 main_v33
  let main_c_9 : IVec S_ 1 := constantI S_ 1 1#1
  let main_v35 : IVec S_ 1 := (fun x v => Host.reduce IntOp.andi x v reducesTo_S8x128x128_S_d0_1_2 h_S_) main_v34 main_c_9
  fn_part2 (F := F) main_arg5 main_v0 main_v2 main_v27 main_v35

def fn {F : FTy → Type} [FloatOps F] (main_arg0 : FVec F S1024x256 .f32) (main_arg1 : FVec F S1024x256 .f32) (main_arg2 : FVec F S1024x256 .f32) (main_arg3 : IVec S1024 32) (main_arg4 : IVec S1024 32) (main_arg5 : IVec S2x131072 32) (main_arg6 : FVec F S256x256 .f32) (main_arg7 : FVec F S256x256 .f32) (main_arg8 : FVec F S256x256 .f32) (main_arg9 : FVec F S768 .f32) (main_arg10 : FVec F S256x256 .f32) (main_arg11 : FVec F S256 .f32) : IVec S_ 1 :=
  let main_v0 : IVec S8x128x128 32 := iotaInDim S8x128x128 32 0
  let main_v1 : IVec S8x128x128 32 := iotaInDim S8x128x128 32 1
  let main_v2 : IVec S8x128x128 32 := iotaInDim S8x128x128 32 2
  let main_v3 : FVec F S1024x256 .f32 := Host.absf main_arg0
  let main_cst : FVec F S_ .f32 := constant S_ .f32 0x7F800000#32
  let main_v4 : FVec F S1024x256 .f32 := broadcastInDim S1024x256 ![] bcast_S_S1024x256 main_cst
  let main_v5 : IVec S1024x256 1 := cmpf .olt main_v3 main_v4
  let main_c : IVec S_ 1 := constantI S_ 1 1#1
  let main_v6 : IVec S_ 1 := (fun x v => Host.reduce IntOp.andi x v reducesTo_S1024x256_S_d0_1 h_S_) main_v5 main_c
  let main_v7 : FVec F S1024x256 .f32 := Host.absf main_arg1
  let main_cst_0 : FVec F S_ .f32 := constant S_ .f32 0x7F800000#32
  let main_v8 : FVec F S1024x256 .f32 := broadcastInDim S1024x256 ![] bcast_S_S1024x256 main_cst_0
  let main_v9 : IVec S1024x256 1 := cmpf .olt main_v7 main_v8
  let main_c_1 : IVec S_ 1 := constantI S_ 1 1#1
  let main_v10 : IVec S_ 1 := (fun x v => Host.reduce IntOp.andi x v reducesTo_S1024x256_S_d0_1 h_S_) main_v9 main_c_1
  let main_v11 : IVec S_ 1 := andi main_v6 main_v10
  let main_v12 : FVec F S256x256 .f32 := Host.absf main_arg6
  let main_cst_2 : FVec F S_ .f32 := constant S_ .f32 0x7F800000#32
  let main_v13 : FVec F S256x256 .f32 := broadcastInDim S256x256 ![] bcast_S_S256x256 main_cst_2
  let main_v14 : IVec S256x256 1 := cmpf .olt main_v12 main_v13
  let main_c_3 : IVec S_ 1 := constantI S_ 1 1#1
  let main_v15 : IVec S_ 1 := (fun x v => Host.reduce IntOp.andi x v reducesTo_S256x256_S_d0_1 h_S_) main_v14 main_c_3
  let main_v16 : IVec S_ 1 := andi main_v11 main_v15
  let main_v17 : FVec F S256x256 .f32 := Host.absf main_arg7
  fn_part1 (F := F) main_arg5 main_arg9 main_v0 main_v1 main_v2 main_v16 main_v17
-- ==== Kernel.lean ====
abbrev S1024x256 : Shape := ⟨2, ![1024, 256]⟩
abbrev S1024 : Shape := ⟨1, ![1024]⟩
abbrev S2x131072 : Shape := ⟨2, ![2, 131072]⟩
abbrev S256x256 : Shape := ⟨2, ![256, 256]⟩
abbrev S768 : Shape := ⟨1, ![768]⟩
abbrev S256 : Shape := ⟨1, ![256]⟩
abbrev S1x768 : Shape := ⟨2, ![1, 768]⟩
abbrev S1x256 : Shape := ⟨2, ![1, 256]⟩
abbrev S8x128x128 : Shape := ⟨3, ![8, 128, 128]⟩
abbrev S512x256 : Shape := ⟨2, ![512, 256]⟩
abbrev S4x128x128 : Shape := ⟨3, ![4, 128, 128]⟩
abbrev S128x128 : Shape := ⟨2, ![128, 128]⟩
abbrev S128x32 : Shape := ⟨2, ![128, 32]⟩
abbrev S128 : Shape := ⟨1, ![128]⟩
abbrev S128x1 : Shape := ⟨2, ![128, 1]⟩
abbrev S1x128x128 : Shape := ⟨3, ![1, 128, 128]⟩
abbrev S131072 : Shape := ⟨1, ![131072]⟩

abbrev nBuf : Space → Nat
  | .hbm => 17
  | .vmem => 20
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024, .i32⟩
  | .hbm, ⟨4, _⟩ => ⟨S1024, .i32⟩
  | .hbm, ⟨5, _⟩ => ⟨S2x131072, .i32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S768, .f32⟩
  | .hbm, ⟨10, _⟩ => ⟨S256x256, .f32⟩
  | .hbm, ⟨11, _⟩ => ⟨S256, .f32⟩
  | .hbm, ⟨12, _⟩ => ⟨S1x768, .f32⟩
  | .hbm, ⟨13, _⟩ => ⟨S1x256, .f32⟩
  | .hbm, ⟨14, _⟩ => ⟨S1024x256, .f32⟩
  | .hbm, ⟨15, _⟩ => ⟨S8x128x128, .f32⟩
  | .hbm, ⟨16, _⟩ => ⟨S131072, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x768, .f32⟩
  | .local _ .vmem, ⟨10, _⟩ => ⟨S256x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S4x128x128, .f32⟩
  | .local _ .vmem, ⟨15, _⟩ => ⟨S4x128x128, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e_over_root" => some (((Real.log 2)⁻¹ * (Real.sqrt 32)⁻¹ : ℝ) : EReal)
  | _ => none
-- ==== ReferenceIdeal.lean ====
abbrev S1024x256 : Shape := ⟨2, ![1024, 256]⟩
abbrev S1024 : Shape := ⟨1, ![1024]⟩
abbrev S2x131072 : Shape := ⟨2, ![2, 131072]⟩
abbrev S256x256 : Shape := ⟨2, ![256, 256]⟩
abbrev S768 : Shape := ⟨1, ![768]⟩
abbrev S256 : Shape := ⟨1, ![256]⟩
abbrev S1x256 : Shape := ⟨2, ![1, 256]⟩
abbrev S1024x8x32 : Shape := ⟨3, ![1024, 8, 32]⟩
abbrev S_ : Shape := ⟨0, ![]⟩
abbrev S1x131072 : Shape := ⟨2, ![1, 131072]⟩
abbrev S131072 : Shape := ⟨1, ![131072]⟩
abbrev S131072x1 : Shape := ⟨2, ![131072, 1]⟩
abbrev S1 : Shape := ⟨1, ![1]⟩
abbrev S1x1 : Shape := ⟨2, ![1, 1]⟩
abbrev S131072x8x32 : Shape := ⟨3, ![131072, 8, 32]⟩
abbrev S131072x8 : Shape := ⟨2, ![131072, 8]⟩
abbrev S8x128x128x8 : Shape := ⟨4, ![8, 128, 128, 8]⟩
abbrev S8x128x8 : Shape := ⟨3, ![8, 128, 8]⟩
abbrev S8x128x1x8 : Shape := ⟨4, ![8, 128, 1, 8]⟩
abbrev S131072x8x1 : Shape := ⟨3, ![131072, 8, 1]⟩
abbrev S8x128x128x8x32 : Shape := ⟨5, ![8, 128, 128, 8, 32]⟩
abbrev S8x128x8x32 : Shape := ⟨4, ![8, 128, 8, 32]⟩

abbrev nBuf : Space → Nat
  | .hbm => 148
  | .vmem => 0
  | .smem => 0
  | _ => 0

abbrev hbmTy0_0 (i : Nat) : BufTy := match i % 128 with
  | 0 => ⟨S1024x256, .f32⟩
  | 1 => ⟨S1024x256, .f32⟩
  | 2 => ⟨S1024x256, .f32⟩
  | 3 => ⟨S1024, .i32⟩
  | 4 => ⟨S1024, .i32⟩
  | 5 => ⟨S2x131072, .i32⟩
  | 6 => ⟨S256x256, .f32⟩
  | 7 => ⟨S256x256, .f32⟩
  | 8 => ⟨S256x256, .f32⟩
  | 9 => ⟨S768, .f32⟩
  | 10 => ⟨S256x256, .f32⟩
  | 11 => ⟨S256, .f32⟩
  | 12 => ⟨S256, .f32⟩
  | 13 => ⟨S256, .f32⟩
  | 14 => ⟨S256, .f32⟩
  | 15 => ⟨S256x256, .f32⟩
  | 16 => ⟨S1024x256, .f32⟩
  | 17 => ⟨S1x256, .f32⟩
  | 18 => ⟨S1024x256, .f32⟩
  | 19 => ⟨S1024x256, .f32⟩
  | 20 => ⟨S256x256, .f32⟩
  | 21 => ⟨S1024x256, .f32⟩
  | 22 => ⟨S1x256, .f32⟩
  | 23 => ⟨S1024x256, .f32⟩
  | 24 => ⟨S1024x256, .f32⟩
  | 25 => ⟨S256x256, .f32⟩
  | 26 => ⟨S1024x256, .f32⟩
  | 27 => ⟨S1x256, .f32⟩
  | 28 => ⟨S1024x256, .f32⟩
  | 29 => ⟨S1024x256, .f32⟩
  | 30 => ⟨S1024x8x32, .f32⟩
  | 31 => ⟨S_, .f32⟩
  | 32 => ⟨S_, .f32⟩
  | 33 => ⟨S1024x8x32, .f32⟩
  | 34 => ⟨S1024x8x32, .f32⟩
  | 35 => ⟨S1024x8x32, .f32⟩
  | 36 => ⟨S1024x8x32, .f32⟩
  | 37 => ⟨S1x131072, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S1, .i32⟩
  | 48 => ⟨S_, .i32⟩
  | 49 => ⟨S131072x1, .i32⟩
  | 50 => ⟨S131072x1, .i1⟩
  | 51 => ⟨S1x1, .i32⟩
  | 52 => ⟨S131072x1, .i32⟩
  | 53 => ⟨S131072x1, .i1⟩
  | 54 => ⟨S131072x1, .i1⟩
  | 55 => ⟨S_, .i1⟩
  | 56 => ⟨S131072, .i1⟩
  | 57 => ⟨S131072x8x32, .f32⟩
  | 58 => ⟨S131072x8x32, .i1⟩
  | 59 => ⟨S_, .f32⟩
  | 60 => ⟨S131072x8x32, .f32⟩
  | 61 => ⟨S131072x8x32, .f32⟩
  | 62 => ⟨S1x131072, .i32⟩
  | 63 => ⟨S131072, .i32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S1, .i32⟩
  | 73 => ⟨S_, .i32⟩
  | 74 => ⟨S131072x1, .i32⟩
  | 75 => ⟨S131072x1, .i1⟩
  | 76 => ⟨S1x1, .i32⟩
  | 77 => ⟨S131072x1, .i32⟩
  | 78 => ⟨S131072x1, .i1⟩
  | 79 => ⟨S131072x1, .i1⟩
  | 80 => ⟨S_, .i1⟩
  | 81 => ⟨S131072, .i1⟩
  | 82 => ⟨S131072x8x32, .f32⟩
  | 83 => ⟨S131072x8x32, .i1⟩
  | 84 => ⟨S_, .f32⟩
  | 85 => ⟨S131072x8x32, .f32⟩
  | 86 => ⟨S131072x8x32, .f32⟩
  | 87 => ⟨S131072x8x32, .f32⟩
  | 88 => ⟨S_, .f32⟩
  | 89 => ⟨S131072x8, .f32⟩
  | 90 => ⟨S8x128x128x8, .f32⟩
  | 91 => ⟨S_, .f32⟩
  | 92 => ⟨S8x128x8, .f32⟩
  | 93 => ⟨S_, .f32⟩
  | 94 => ⟨S8x128x8, .f32⟩
  | 95 => ⟨S8x128x8, .f32⟩
  | 96 => ⟨S8x128x1x8, .f32⟩
  | 97 => ⟨S8x128x128x8, .f32⟩
  | 98 => ⟨S8x128x128x8, .f32⟩
  | 99 => ⟨S8x128x128x8, .f32⟩
  | 100 => ⟨S_, .f32⟩
  | 101 => ⟨S8x128x8, .f32⟩
  | 102 => ⟨S8x128x1x8, .f32⟩
  | 103 => ⟨S8x128x128x8, .f32⟩
  | 104 => ⟨S8x128x128x8, .f32⟩
  | 105 => ⟨S131072x8, .f32⟩
  | 106 => ⟨S1x131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S131072x1, .i32⟩
  | 116 => ⟨S1, .i32⟩
  | 117 => ⟨S_, .i32⟩
  | 118 => ⟨S131072x1, .i32⟩
  | 119 => ⟨S131072x1, .i1⟩
  | 120 => ⟨S1x1, .i32⟩
  | 121 => ⟨S131072x1, .i32⟩
  | 122 => ⟨S131072x1, .i1⟩
  | 123 => ⟨S131072x1, .i1⟩
  | 124 => ⟨S_, .i1⟩
  | 125 => ⟨S131072, .i1⟩
  | 126 => ⟨S131072x8x32, .f32⟩
  | 127 => ⟨S131072x8x32, .i1⟩
  | _ => ⟨S1024x256, .f32⟩

abbrev hbmTy0_1 (i : Nat) : BufTy := match i % 128 with
  | 0 => ⟨S_, .f32⟩
  | 1 => ⟨S131072x8x32, .f32⟩
  | 2 => ⟨S131072x8x32, .f32⟩
  | 3 => ⟨S131072x8x1, .f32⟩
  | 4 => ⟨S131072x8x32, .f32⟩
  | 5 => ⟨S131072x8x32, .f32⟩
  | 6 => ⟨S8x128x128x8x32, .f32⟩
  | 7 => ⟨S_, .f32⟩
  | 8 => ⟨S8x128x8x32, .f32⟩
  | 9 => ⟨S1024x256, .f32⟩
  | 10 => ⟨S256x256, .f32⟩
  | 11 => ⟨S1024x256, .f32⟩
  | 12 => ⟨S1x256, .f32⟩
  | 13 => ⟨S1024x256, .f32⟩
  | 14 => ⟨S1024x256, .f32⟩
  | 15 => ⟨S_, .f32⟩
  | 16 => ⟨S131072, .f32⟩
  | 17 => ⟨S_, .f32⟩
  | 18 => ⟨S131072, .f32⟩
  | 19 => ⟨S131072, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v29 : Ref sig .tc := ⟨.hbm, 86, rfl⟩
abbrev main_v30 : Ref sig .tc := ⟨.hbm, 87, rfl⟩
abbrev main_cst_0 : Ref sig .tc := ⟨.hbm, 88, rfl⟩
abbrev main_v31 : Ref sig .tc := ⟨.hbm, 89, rfl⟩
abbrev main_v32 : Ref sig .tc := ⟨.hbm, 90, rfl⟩
abbrev main_cst_1 : Ref sig .tc := ⟨.hbm, 91, rfl⟩
abbrev main_v33 : Ref sig .tc := ⟨.hbm, 92, rfl⟩
abbrev main_cst_2 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_cst_3 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_cst_4 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_cst_5 : Ref sig .tc := ⟨.hbm, 143, rfl⟩
abbrev main_v59 : Ref sig .tc := ⟨.hbm, 144, rfl⟩
abbrev main_cst_6 : Ref sig .tc := ⟨.hbm, 145, rfl⟩
abbrev main_v60 : Ref sig .tc := ⟨.hbm, 146, rfl⟩
abbrev main_v61 : Ref sig .tc := ⟨.hbm, 147, rfl⟩

abbrev nD : Nat := 1
abbrev τ : Topo := Topo.v7x

variable {F : FTy → Type} [FloatOps F]
-- ==== Proof.Block.lean ====
/- What one grid point of the kernel leaves in its two output blocks, as formulas over the point's input blocks: the
   projected rows of four graphs, and for every graph and head the attention of the 128 rows of that graph. -/
module

public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Idealize.ShloMosaic.Tactic
open Cert.KernelIdeal Cert.KernelIdeal.Gen

/-- Rows of graph `b`, columns of head `h`, lie inside the block. -/
theorem slab_inb (b : Fin 4) (h : Fin 8) : ∀ a, (![128 * b.val, 32 * h.val] : Fin 2 → Nat) a + S128x32.size a ≤ S512x256.size a := by
  intro a
  have := b.isLt; have := h.isLt
  match a with
  | ⟨0, _⟩ => show 128 * b.val + 128 ≤ 512; omega
  | ⟨1, _⟩ => show 32 * h.val + 32 ≤ 256; omega

/-- The rectangle of graph `b` and head `h`. -/
abbrev slabRect (b : Fin 4) (h : Fin 8) : Rect S512x256 := Rect.unit ![128 * b.val, 32 * h.val] S128x32.size (slab_inb b h)

/-- The rows of graph `b` and the columns of head `h` of a block. -/
def slab (x : Vec Ideal S512x256 .f32) (b : Fin 4) (h : Fin 8) : Vec Ideal S128x32 .f32 := View.ld x (slabRect b h)

/-- The projected queries of a block, scaled; the projected keys; the projected values. -/
def qBlock (x : Vec Ideal S512x256 .f32) (w : Vec Ideal S256x256 .f32) (bias : Vec Ideal S1x768 .f32) : Vec Ideal S512x256 .f32 :=
  k0_pay1 (F := Ideal) x w (View.ld bias (Rect.unit ![0, 0] S1x256.size inb_S1x768_S1x256_0_0))
def kBlock (x : Vec Ideal S512x256 .f32) (w : Vec Ideal S256x256 .f32) (bias : Vec Ideal S1x768 .f32) : Vec Ideal S512x256 .f32 :=
  k0_pay2 (F := Ideal) x w (View.ld bias (Rect.unit ![0, 256] S1x256.size inb_S1x768_S1x256_0_256))
def vBlock (x : Vec Ideal S512x256 .f32) (w : Vec Ideal S256x256 .f32) (bias : Vec Ideal S1x768 .f32) : Vec Ideal S512x256 .f32 :=
  k0_pay4 (F := Ideal) (k0_pay3 x w (View.ld bias (Rect.unit ![0, 512] S1x256.size inb_S1x768_S1x256_0_512)))

/-- The attention weights of one head: the powers of two times the reciprocal of their row's sum. -/
def share (q k : Vec Ideal S128x32 .f32) : FVec Ideal S128x128 .f32 :=
  mulf (k0_pay5 q k) (broadcastTo S128x128 (k0_pay6 q k) broadcasts_S128x1_S128x128)

/-- The mean of the attention weights of graph `b` over the eight heads. -/
def meanShare (q k : Vec Ideal S512x256 .f32) (b : Fin 4) : FVec Ideal S1x128x128 .f32 :=
  let w : Fin 8 → FVec Ideal S128x128 .f32 := fun h => share (slab q b h) (slab k b h)
  shapeCast S1x128x128
    (mulf (addf (addf (addf (addf (addf (addf (addf (addf (broadcast S128x128 (Scalar.ofBits .f32 0x00000000#32)) (w 0)) (w 1)) (w 2)) (w 3))
      (w 4)) (w 5)) (w 6)) (w 7)) (broadcast S128x128 (Scalar.ofBits .f32 0x3E000000#32))) shapeCasts_S128x128_S1x128x128

/-- The attended values of graph `b` and head `h`. -/
def attended (q k v : Vec Ideal S512x256 .f32) (b : Fin 4) (h : Fin 8) : FVec Ideal S128x32 .f32 :=
  k0_pay7 (slab q b h) (slab k b h) (slab v b h)

/-- The pieces of the attended values, the last one stored first: graph by graph, head by head. -/
def attendedPieces (q k v : Vec Ideal S512x256 .f32) : List (View.Piece (Elt Ideal) S512x256 .f32) :=
  (List.finRange 32).map fun n =>
    ⟨slabRect ⟨3 - n.val / 8, by omega⟩ ⟨7 - n.val % 8, by omega⟩, attended q k v ⟨3 - n.val / 8, by omega⟩ ⟨7 - n.val % 8, by omega⟩⟩

/-- The rows of graph `b` of the mean weights' block. -/
theorem meanShare_inb (b : Fin 4) : ∀ a, (![b.val, 0, 0] : Fin 3 → Nat) a + S1x128x128.size a ≤ S4x128x128.size a := by
  intro a
  have := b.isLt
  match a with
  | ⟨0, _⟩ => show b.val + 1 ≤ 4; omega
  | ⟨1, _⟩ => show 0 + 128 ≤ 128; omega
  | ⟨2, _⟩ => show 0 + 128 ≤ 128; omega

abbrev meanRect (b : Fin 4) : Rect S4x128x128 := Rect.unit ![b.val, 0, 0] S1x128x128.size (meanShare_inb b)

/-- The pieces of the mean weights, the last graph's first. -/
def meanPieces (q k : Vec Ideal S512x256 .f32) : List (View.Piece (Elt Ideal) S4x128x128 .f32) :=
  (List.finRange 4).map fun n => ⟨meanRect ⟨3 - n.val, by omega⟩, meanShare q k ⟨3 - n.val, by omega⟩⟩

variable (m : (ℓ : Loc nD τ sig) → Buf (Elt Ideal) ℓ)

/-- The projected blocks of point `t`. -/
def qAt (c : Dev nD) (t : Fin cfg0.N) := qBlock (iblk m c 0 t) (iblk m c 3 t) (iblk m c 6 t)
def kAt (c : Dev nD) (t : Fin cfg0.N) := kBlock (iblk m c 1 t) (iblk m c 4 t) (iblk m c 6 t)
def vAt (c : Dev nD) (t : Fin cfg0.N) := vBlock (iblk m c 2 t) (iblk m c 5 t) (iblk m c 6 t)

theorem off00 : (![0, 0] : Fin 2 → Nat) = fun _ => 0 := by
  funext a; match a with | ⟨0, _⟩ => rfl | ⟨1, _⟩ => rfl

/-- A load of a whole block reads the block. -/
theorem ld_rows (X : Vec Ideal S512x256 .f32) : View.ld X (Rect.unit ![0, 0] ![512, 256] inb_S512x256_S512x256_0_0) = X :=
  View.ld_unit_zero (S := S512x256) off00 _ X
theorem ld_matrix (X : Vec Ideal S256x256 .f32) : View.ld X (Rect.unit ![0, 0] ![256, 256] inb_S256x256_S256x256_0_0) = X :=
  View.ld_unit_zero (S := S256x256) off00 _ X
theorem ld_line (X : Vec Ideal S1x256 .f32) : View.ld X (Rect.unit ![0, 0] ![1, 256] inb_S1x256_S1x256_0_0) = X :=
  View.ld_unit_zero (S := S1x256) off00 _ X

/-- A store of a whole block leaves its payload. -/
theorem canon_rows (w : Vec Ideal S512x256 .f32) :
    View.canon [(⟨Rect.unit ![0, 0] ![512, 256] inb_S512x256_S512x256_0_0, w⟩ : View.Piece (Elt Ideal) S512x256 .f32)] = w :=
  View.canon_unit_zero (S := S512x256) off00 _ w

/-- A load of a buffer one store filled reads the payload. -/
theorem readCov_full {κ' : Kind} {sp : Space} (v : View sig κ' sp S512x256 .f32) (w : Vec Ideal S512x256 .f32) (r : Rect S512x256) :
    v.readCov [(⟨Rect.unit ![0, 0] ![512, 256] inb_S512x256_S512x256_0_0, w⟩ : View.Piece (Elt Ideal) S512x256 .f32)] r.toLoadRect = View.ld w r :=
  (View.readCov_eq_canon' v _ _).trans (congrArg (View.ld · r) (canon_rows w))

/-- A load of the whole of a buffer filled by pieces reads what they leave. -/
theorem readCov_pieces {κ' : Kind} {sp : Space} (v : View sig κ' sp S512x256 .f32) (L : List (View.Piece (Elt Ideal) S512x256 .f32)) :
    v.readCov L (Rect.unit ![0, 0] ![512, 256] inb_S512x256_S512x256_0_0).toLoadRect = View.canon L :=
  (View.readCov_eq_canon' v L _).trans (ld_rows (View.canon L))

theorem weights_block (c : Dev nD) (t : Fin cfg0.N) :
    (outsAt0 m c t).2 = View.canon (meanPieces (qAt m c t) (kAt m c t)) := by
  unfold outsAt0 out0_A_10; dsimp only
  rw [View.read_writes_eq_canon _ _ _ (cover0_A_10 c _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, readCov_full, ld_rows, ld_matrix]
  rfl

theorem out_block (c : Dev nD) (t : Fin cfg0.N) :
    (outsAt0 m c t).1 = k0_pay141 (View.canon (attendedPieces (qAt m c t) (kAt m c t) (vAt m c t))) (iblk m c 7 t) (iblk m c 8 t) := by
  unfold outsAt0 out0_A_9; dsimp only
  rw [View.read_writes_eq_canon _ _ _ (cover0_A_9 c _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, readCov_full, ld_rows, ld_matrix, ld_line, readCov_pieces, canon_rows]
  rfl

end Cert.Block
end
-- ==== Proof.BlockValue.lean ====
/- The formulas of a grid point's blocks read at an index: sums over the extended reals. -/
module

public import proofs.«01_k».proof.Proof.Block
public import Idealize.ShloMosaic.Lib.Pointwise

@[expose] public section

set_option maxRecDepth 16384

noncomputable section

namespace Cert.Block

open Idealize.ShloMosaic Idealize.ShloMosaic.TcCoe Idealize.ShloMosaic.Tactic
open Cert.KernelIdeal Cert.KernelIdeal.Gen

theorem kBlock_apply (x : Vec Ideal S512x256 .f32) (w : Vec Ideal S256x256 .f32) (bias : Vec Ideal S1x768 .f32) (r : Fin 512) (c : Fin 256) :
    kBlock x w bias (ix2 r c) = (∑ k : Fin 256, x (ix2 r k) * w (ix2 c k)) + bias (ix2 0 ⟨256 + c.val, by omega⟩) := by
  pointwise [kBlock, k0_pay2]

/-- The scale of the queries: the constant the kernel folds into one, `log₂ e` over the root of the head's width. -/
theorem scale_eq : (Named.named κ "log2e_over_root" 0x3E8293EE#32 : Ideal .f32) = (((Real.log 2)⁻¹ * (Real.sqrt 32)⁻¹ : ℝ) : EReal) :=
  IdealRules.named_const.ideal_named_scalar _ _ _ _ rfl

theorem qBlock_apply (x : Vec Ideal S512x256 .f32) (w : Vec Ideal S256x256 .f32) (bias : Vec Ideal S1x768 .f32) (r : Fin 512) (c : Fin 256) :
    qBlock x w bias (ix2 r c) = ((∑ k : Fin 256, x (ix2 r k) * w (ix2 c k)) + bias (ix2 0 ⟨c.val, by omega⟩))
      * (((Real.log 2)⁻¹ * (Real.sqrt 32)⁻¹ : ℝ) : EReal) := by
  rw [← scale_eq]
  pointwise [qBlock, k0_pay1]

theorem vBlock_apply (x : Vec Ideal S512x256 .f32) (w : Vec Ideal S256x256 .f32) (bias : Vec Ideal S1x768 .f32) (r : Fin 512) (c : Fin 256) :
    vBlock x w bias (ix2 r c) = (∑ k : Fin 256, x (ix2 r k) * w (ix2 c k)) + bias (ix2 0 ⟨512 + c.val, by omega⟩) := by
  pointwise [vBlock, k0_pay3, k0_pay4]

theorem powers_apply (q k : Vec Ideal S128x32 .f32) (i j : Fin 128) :
    k0_pay5 q k (ix2 i j) = Ideal.exp2 (∑ d : Fin 32, q (ix2 i d) * k (ix2 j d)) := by
  pointwise [k0_pay5]
  rfl

theorem recip_apply (q k : Vec Ideal S128x32 .f32) (i : Fin 128) :
    k0_pay6 q k (ix2 i 0) = Ideal.div 1 (∑ j : Fin 128, k0_pay5 q k (ix2 i j)) := by
  pointwise [k0_pay6]

theorem share_apply (q k : Vec Ideal S128x32 .f32) (i j : Fin 128) :
    share q k (ix2 i j) = k0_pay5 q k (ix2 i j) * k0_pay6 q k (ix2 i 0) := by
  pointwise [share]

theorem out_apply (a : Vec Ideal S512x256 .f32) (w : Vec Ideal S256x256 .f32) (b : Vec Ideal S1x256 .f32) (r : Fin 512) (o : Fin 256) :
    k0_pay141 a w b (ix2 r o) = (∑ c : Fin 256, a (ix2 r c) * w (ix2 o c)) + b (ix2 0 o) := by
  pointwise [k0_pay141]

theorem slab_apply (x : Vec Ideal S512x256 .f32) (b : Fin 4) (h : Fin 8) (i : Fin 128) (d : Fin 32) :
    slab x b h (ix2 i d) = x (ix2 ⟨128 * b.val + i.val, by omega⟩ ⟨32 * h.val + d.val, by omega⟩) :=
  View.ld_unit_apply_of x _ _ _ _ _ fun a => by
    match a with
    | ⟨0, _⟩ => rfl
    | ⟨1, _⟩ => rfl

theorem attended_apply (q k v : Vec Ideal S512x256 .f32) (b : Fin 4) (h : Fin 8) (i : Fin 128) (d : Fin 32) :
    attended q k v b h (ix2 i d) = (∑ j : Fin 128, k0_pay5 (slab q b h) (slab k b h) (ix2 i j) * slab v b h (ix2 j d))
      * k0_pay6 (slab q b h) (slab k b h) (ix2 i 0) := by
  pointwise [attended, k0_pay7]

theorem meanShare_apply (q k : Vec Ideal S512x256 .f32) (b : Fin 4) (i j : Fin 128) :
    meanShare q k b (ix3 0 i j) = (∑ h : Fin 8, share (slab q b h) (slab k b h) (ix2 i j)) * Ideal.ofBits .f32 0x3E000000#32 := by
  rw [Fin.sum_univ_eight]
  pointwise [meanShare]

theorem mem_rect {s : Shape} (r : Rect s) (x : r.shape.Idx) : r.emb x ∈ r.set := by
  rw [← Rect.map_emb_univ]
  exact Finset.mem_map_of_mem _ (Finset.mem_univ x)

/-- The attended values of a block, read at an index: each from the graph and the head it lies in. -/
theorem attended_canon (q k v : Vec Ideal S512x256 .f32) (b : Fin 4) (h : Fin 8) (i : Fin 128) (d : Fin 32) :
    View.canon (attendedPieces q k v) (ix2 ⟨128 * b.val + i.val, by omega⟩ ⟨32 * h.val + d.val, by omega⟩) = attended q k v b h (ix2 i d) := by
  let G : S512x256.Idx → EReal := fun y =>
    attended q k v ⟨(y 0).val / 128, by have : (y 0).val < 512 := (y 0).isLt; omega⟩ ⟨(y 1).val / 32, by have : (y 1).val < 256 := (y 1).isLt; omega⟩
      (ix2 ⟨(y 0).val % 128, by omega⟩ ⟨(y 1).val % 32, by omega⟩)
  have hG : ∀ (b : Fin 4) (h : Fin 8) (x : S128x32.Idx), attended q k v b h x = G ((slabRect b h).emb x) := fun b h x => by
    have h0 : (x 0).val < 128 := (x 0).isLt
    have h1 : (x 1).val < 32 := (x 1).isLt
    have e0 : ((slabRect b h).emb x 0).val = 128 * b.val + (x 0).val := ValueKit.rect_emb_unit_val _ _ _ _ _
    have e1 : ((slabRect b h).emb x 1).val = 32 * h.val + (x 1).val := ValueKit.rect_emb_unit_val _ _ _ _ _
    show _ = attended q k v _ _ _
    congr 1
    · refine Fin.ext ?_; show b.val = _ / 128; rw [e0]; omega
    · refine Fin.ext ?_; show h.val = _ / 32; rw [e1]; omega
    · funext a
      match a with
      | ⟨0, _⟩ => refine Fin.ext ?_; show (x 0).val = _ % 128; rw [e0]; omega
      | ⟨1, _⟩ => refine Fin.ext ?_; show (x 1).val = _ % 32; rw [e1]; omega
  have hidx : (ix2 ⟨128 * b.val + i.val, by omega⟩ ⟨32 * h.val + d.val, by omega⟩ : S512x256.Idx) = (slabRect b h).emb (ix2 i d) := by
    funext a
    refine Fin.ext ((ValueKit.rect_emb_unit_val _ _ _ _ a).trans ?_).symm
    match a with
    | ⟨0, _⟩ => rfl
    | ⟨1, _⟩ => rfl
  rw [hidx, hG]
  refine View.canon_apply_of_pieces (Val := Elt Ideal) (e := .f32) G _ (fun p hp => ?_) _ ?_
  · obtain ⟨n, -, rfl⟩ := List.mem_map.1 hp
    exact hG _ _
  · refine ⟨_, List.mem_map.2 ⟨⟨8 * (3 - b.val) + (7 - h.val), by omega⟩, List.mem_finRange _, rfl⟩, ?_⟩
    have eb : (⟨3 - (8 * (3 - b.val) + (7 - h.val)) / 8, by omega⟩ : Fin 4) = b := Fin.ext (by show 3 - _ / 8 = b.val; omega)
    have eh : (⟨7 - (8 * (3 - b.val) + (7 - h.val)) % 8, by omega⟩ : Fin 8) = h := Fin.ext (by show 7 - _ % 8 = h.val; omega)
    show _ ∈ (slabRect ⟨3 - (8 * (3 - b.val) + (7 - h.val)) / 8, _⟩ ⟨7 - (8 * (3 - b.val) + (7 - h.val)) % 8, _⟩).set
    rw [eb, eh]
    exact mem_rect _ _

/-- The mean weights of a block, read at an index. -/
theorem mean_canon (q k : Vec Ideal S512x256 .f32) (b : Fin 4) (i j : Fin 128) :
    View.canon (meanPieces q k) (ix3 b i j) = meanShare q k b (ix3 0 i j) := by
  let G : S4x128x128.Idx → EReal := fun y => meanShare q k (y 0) (ix3 0 (y 1) (y 2))
  have hG : ∀ (b : Fin 4) (x : S1x128x128.Idx), meanShare q k b x = G ((meanRect b).emb x) := fun b x => by
    have h0 : (x 0).val < 1 := (x 0).isLt
    have e0 : ((meanRect b).emb x 0).val = b.val + (x 0).val := ValueKit.rect_emb_unit_val _ _ _ _ _
    have e1 : ((meanRect b).emb x 1).val = 0 + (x 1).val := ValueKit.rect_emb_unit_val _ _ _ _ _
    have e2 : ((meanRect b).emb x 2).val = 0 + (x 2).val := ValueKit.rect_emb_unit_val _ _ _ _ _
    show _ = meanShare q k _ _
    congr 1
    · exact Fin.ext (by rw [e0]; omega)
    · funext a
      match a with
      | ⟨0, _⟩ => refine Fin.ext ?_; show (x 0).val = 0; omega
      | ⟨1, _⟩ => refine Fin.ext ?_; show (x 1).val = ((meanRect b).emb x 1).val; omega
      | ⟨2, _⟩ => refine Fin.ext ?_; show (x 2).val = ((meanRect b).emb x 2).val; omega
  have hidx : (ix3 b i j : S4x128x128.Idx) = (meanRect b).emb (ix3 0 i j) := by
    funext a
    refine Fin.ext ((ValueKit.rect_emb_unit_val _ _ _ _ a).trans ?_).symm
    match a with
    | ⟨0, _⟩ => rfl
    | ⟨1, _⟩ => exact Nat.zero_add _
    | ⟨2, _⟩ => exact Nat.zero_add _
  rw [hidx, hG]
  refine View.canon_apply_of_pieces (Val := Elt Ideal) (e := .f32) G _ (fun p hp => ?_) _ ?_
  · obtain ⟨n, -, rfl⟩ := List.mem_map.1 hp
    exact hG _
  · refine ⟨_, List.mem_map.2 ⟨⟨3 - b.val, by omega⟩, List.mem_finRange _, rfl⟩, ?_⟩
    have eb : (⟨3 - (3 - b.val), by omega⟩ : Fin 4) = b := Fin.ext (by show 3 - (3 - b.val) = b.val; omega)
    show _ ∈ (meanRect ⟨3 - (3 - b.val), _⟩).set
    rw [eb]
    exact mem_rect _ _

end Cert.Block
end
-- ==== Proof.Take.lean ====
/- Picking table rows by a list of row numbers, as the reference picks the endpoints of the edges. -/
module

public import proofs.«01_k».proof.Proof.Gen.ReferenceIdeal.Read
public import Idealize.ShloMosaic.Lib.Pointwise
public import Idealize.ShloMosaic.Lib.ReduceAll
public import Idealize.ShloMosaic.Lib.StableHlo.Predicate

@[expose] public section

set_option maxRecDepth 16384

noncomputable section

namespace Cert.Reference

open Idealize.ShloMosaic Idealize.ShloMosaic.TcCoe Idealize.ShloMosaic.Tactic
open Cert.ReferenceIdeal Cert.ReferenceIdeal.Gen

/-- The row numbers as a column, a negative one counted from the table's end. -/
def column (e : IVec S131072 32) : IVec S131072x1 32 :=
  broadcastInDim S131072x1 ![0] bcast_S131072_S131072x1_0
    (select (cmpi .slt e (broadcastInDim S131072 ![] bcast_S_S131072 (constantI S_ 32 0#32)))
      (addi e (broadcastInDim S131072 ![] bcast_S_S131072 (constantI S_ 32 1024#32))) e)

/-- Whether each row number lies inside the table. -/
def inside (e : IVec S131072 32) : IVec S131072x1 1 :=
  andi (cmpi .sge (column e) (broadcastInDim S131072x1 ![] bcast_S_S131072x1 (constantI S_ 32 0#32)))
    (cmpi .sle (column e)
      (broadcastInDim S131072x1 ![0, 1] bcast_S1x1_S131072x1_0_1 (broadcastInDim S1x1 ![1] bcast_S1_S1x1_1 (constantI S1 32 1023#32))))

/-- The table's rows at the row numbers; NaN at a row number outside the table. -/
def take (x : Vec Ideal S1024x8x32 .f32) (e : IVec S131072 32) : Vec Ideal S131072x8x32 .f32 :=
  select
    (broadcastInDim S131072x8x32 ![0] bcast_S131072_S131072x8x32_0
      (Host.reduce IntOp.andi (inside e) (constantI S_ 1 1#1) reducesTo_S131072x1_S131072_d1 h_S_))
    (Host.gather gather_S1024x8x32_S131072x1_S131072x8x32_12_0_n_n_0_1_1832 x (column e))
    (broadcastInDim S131072x8x32 ![] bcast_S_S131072x8x32 (constant (F := Ideal) S_ .f32 0x7FC00000#32))

theorem not_negative : ∀ r : Fin 1024, IntOp.cmpi .slt (BitVec.ofNat 32 r.val) 0#32 = 0#1 := by decide +kernel

theorem in_table : ∀ r : Fin 1024,
    IntOp.andi (IntOp.cmpi .sge (BitVec.ofNat 32 r.val) 0#32) (IntOp.cmpi .sle (BitVec.ofNat 32 r.val) 1023#32) = 1#1 := by
  decide +kernel

variable {e : IVec S131072 32} {r : Fin 131072 → Fin 1024}

theorem column_apply (he : ∀ n, e (ix1 n) = BitVec.ofNat 32 (r n).val) (n : Fin 131072) :
    column e (ix2 n 0) = BitVec.ofNat 32 (r n).val := by
  have h : column e (ix2 n 0) = Scalar.select (IntOp.cmpi .slt (e (ix1 n)) 0#32) (IntOp.addi (e (ix1 n)) 1024#32) (e (ix1 n)) := by
    pointwise [column]
  rw [h, he n, not_negative]
  rfl

theorem inside_apply (he : ∀ n, e (ix1 n) = BitVec.ofNat 32 (r n).val) (i : S131072x1.Idx) : inside e i = 1#1 := by
  obtain ⟨n, rfl⟩ : ∃ n : Fin 131072, i = ix2 n 0 := ⟨i 0, funext fun a => by
    match a with
    | ⟨0, _⟩ => rfl
    | ⟨1, _⟩ => exact Subsingleton.elim (α := Fin 1) _ _⟩
  have h : inside e (ix2 n 0) = IntOp.andi (IntOp.cmpi .sge (column e (ix2 n 0)) 0#32) (IntOp.cmpi .sle (column e (ix2 n 0)) 1023#32) := by
    pointwise [inside]
  rw [h, column_apply he, in_table]

theorem gathered (he : ∀ n, e (ix1 n) = BitVec.ofNat 32 (r n).val) (x : Vec Ideal S1024x8x32 .f32) (n : Fin 131072) (h : Fin 8)
    (d : Fin 32) :
    Host.gather gather_S1024x8x32_S131072x1_S131072x8x32_12_0_n_n_0_1_1832 x (column e) (ix3 n h d) = x (ix3 (r n) h d) := by
  unfold Host.gather
  refine congrArg x (funext fun a => Fin.ext ?_)
  match a with
  | ⟨0, _⟩ =>
    have hsi : GatherDims.siIdx gather_S1024x8x32_S131072x1_S131072x8x32_12_0_n_n_0_1_1832 (ix3 n h d) ⟨0, Nat.one_pos⟩ = ix2 n 0 :=
      funext fun b => match b with
        | ⟨0, _⟩ => rfl
        | ⟨1, _⟩ => rfl
    have h0 : min (column e (ix2 n 0)).toInt.toNat 1023 = (r n).val := by
      rw [column_apply he, StableHlo.Predicate.toInt_ofNat_small _ (by omega)]
      omega
    rw [← hsi] at h0
    exact h0
  | ⟨1, _⟩ => exact Nat.zero_add h.val
  | ⟨2, _⟩ => exact Nat.zero_add d.val

theorem take_apply (he : ∀ n, e (ix1 n) = BitVec.ofNat 32 (r n).val) (x : Vec Ideal S1024x8x32 .f32) (n : Fin 131072) (h : Fin 8)
    (d : Fin 32) : take x e (ix3 n h d) = x (ix3 (r n) h d) := by
  have hm : Host.reduce IntOp.andi (inside e) (constantI S_ 1 1#1) reducesTo_S131072x1_S131072_d1 h_S_ (ix1 n) = 1#1 :=
    Host.reduce_andi_one _ _ _ _ _ rfl (inside_apply he)
  rw [← gathered he x n h d]
  generalize hg : Host.gather gather_S1024x8x32_S131072x1_S131072x8x32_12_0_n_n_0_1_1832 x (column e) = y
  generalize hb : Host.reduce IntOp.andi (inside e) (constantI S_ 1 1#1) reducesTo_S131072x1_S131072_d1 h_S_ = b at hm
  have : take x e (ix3 n h d) = Scalar.select (b (ix1 n)) (y (ix3 n h d)) (Ideal.ofBits .f32 0x7FC00000#32) := by
    unfold take
    rw [hg, hb]
    pointwise []
  rw [this, hm]
  rfl

open Cert.ReferenceIdeal.Read in
theorem queries_eq (x0 : Vec Ideal S1024x256 .f32) (x5 : IVec S2x131072 32) (x6 : Vec Ideal S256x256 .f32) (x9 : Vec Ideal S768 .f32) :
    val_main_v26 (F := Ideal) x0 x5 x6 x9 = take (val_main_v21 (F := Ideal) x0 x6 x9) (val_main_v25 (F := Ideal) x5) := rfl

open Cert.ReferenceIdeal.Read in
theorem keys_eq (x1 : Vec Ideal S1024x256 .f32) (x5 : IVec S2x131072 32) (x7 : Vec Ideal S256x256 .f32) (x9 : Vec Ideal S768 .f32) :
    val_main_v29 (F := Ideal) x1 x5 x7 x9 = take (val_main_v22 (F := Ideal) x1 x7 x9) (val_main_v28 (F := Ideal) x5) := rfl

open Cert.ReferenceIdeal.Read in
theorem values_eq (x2 : Vec Ideal S1024x256 .f32) (x5 : IVec S2x131072 32) (x8 : Vec Ideal S256x256 .f32) (x9 : Vec Ideal S768 .f32) :
    val_main_v47 (F := Ideal) x2 x5 x8 x9 = take (val_main_v23 (F := Ideal) x2 x8 x9) (val_main_v46 (F := Ideal) x5) := rfl

end Cert.Reference
-- ==== Proof.Softmax.lean ====
/- The mathematics both programs share, away from either of them: a softmax row over real logits, formed on one
   side as unnormalised powers of two with the reciprocal of their sum pulled out, on the other as the
   shifted exponentials over their sum. -/
module

public import Idealize.ShloMosaic.PureOps.Ideal
public import Idealize.ShloMosaic.PureOps.Ideal.Laws

@[expose] public section

open Idealize.ShloMosaic

namespace Cert.Softmax

/-- A finite extended real. -/
def IsReal (x : EReal) : Prop := ∃ r : ℝ, x = (r : EReal)

theorem IsReal.coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i, IsReal (f i)) : IsReal (∑ i ∈ S, f i) := by
  choose g hg using h
  exact ⟨∑ i ∈ S, g i, by rw [coe_sum]; exact Finset.sum_congr rfl fun i _ => hg i⟩

/-- A finite factor, not negative, goes into a sum whatever the summands. -/
theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.2 hc) (EReal.coe_ne_top _), ih]

/-- The largest of finitely many reals, folded from `⊥` over a set that is not empty, is a real. -/
theorem fold_max_fin {ι : Type*} (S : Finset ι) (f : ι → EReal) (h : ∀ i, IsReal (f i)) (hS : S.Nonempty) :
    IsReal (S.fold max ⊥ f) := by
  classical
  induction hS using Finset.Nonempty.cons_induction with
  | singleton a => rw [Finset.fold_singleton, max_eq_left bot_le]; exact h a
  | cons a S ha _ ih =>
    rw [Finset.fold_cons]
    rcases max_choice (f a) (S.fold max ⊥ f) with e | e <;> rw [e]
    exacts [h a, ih]

variable {n : Nat}

/-- The weight of item `j` in the softmax of the logits `s`. -/
noncomputable def weight (s : Fin n → ℝ) (j : Fin n) : ℝ := Real.exp (s j) / ∑ k, Real.exp (s k)

theorem total_pos (s : Fin n → ℝ) (j : Fin n) : 0 < ∑ k, Real.exp (s k) :=
  Finset.sum_pos (fun _ _ => Real.exp_pos _) ⟨j, Finset.mem_univ j⟩

theorem weight_nonneg (s : Fin n → ℝ) (j : Fin n) : 0 ≤ weight s j :=
  div_nonneg (Real.exp_pos _).le (total_pos s j).le

/-- Two to the power `x / log 2` is `exp x`. -/
theorem exp2_scaled (x : ℝ) : Ideal.exp2 ((x * (Real.log 2)⁻¹ : ℝ) : EReal) = (Real.exp x : EReal) := by
  rw [Ideal.exp2_coe]
  congr 1
  show (2 : ℝ) ^ (x * (Real.log 2)⁻¹) = _
  rw [Real.rpow_def_of_pos two_pos]
  congr 1
  have : Real.log 2 ≠ 0 := (Real.log_pos one_lt_two).ne'
  field_simp

/-- The reciprocal of the sum of the exponentials, as the division gives it. -/
theorem recip_total (s : Fin n → ℝ) (i : Fin n) :
    Ideal.div 1 (∑ k, (Real.exp (s k) : EReal)) = (((∑ k, Real.exp (s k))⁻¹ : ℝ) : EReal) := by
  rw [← coe_sum, Ideal.div_coe (total_pos s i).ne', one_mul, one_div]

/-- An exponential times the reciprocal of the sum is the weight. -/
theorem exp_mul_recip (s : Fin n → ℝ) (j : Fin n) :
    (Real.exp (s j) : EReal) * (((∑ k, Real.exp (s k))⁻¹ : ℝ) : EReal) = (weight s j : EReal) := by
  rw [← EReal.coe_mul, weight, div_eq_mul_inv]

/-- Normalising after the weighted sum or before it: one value, also where the values summed are infinite. -/
theorem sum_exp_mul_recip (s : Fin n → ℝ) (i : Fin n) (v : Fin n → EReal) :
    (∑ j, (Real.exp (s j) : EReal) * v j) * (((∑ k, Real.exp (s k))⁻¹ : ℝ) : EReal) = ∑ j, (weight s j : EReal) * v j := by
  rw [sum_mul_coe _ _ (inv_nonneg.2 (total_pos s i).le)]
  refine Finset.sum_congr rfl fun j _ => ?_
  rw [mul_right_comm, exp_mul_recip]

/-- The softmax with the logits shifted by any real `m`, the largest among them in the reference. -/
theorem shifted (s : Fin n → ℝ) (m : ℝ) (j : Fin n) :
    Ideal.div (Ideal.exp ((s j : EReal) - (m : EReal))) (∑ k, Ideal.exp ((s k : EReal) - (m : EReal)))
      = (weight s j : EReal) := by
  have he : ∀ k, Ideal.exp ((s k : EReal) - (m : EReal)) = ((Real.exp (s k) * Real.exp (-m) : ℝ) : EReal) := fun k => by
    rw [← EReal.coe_sub, Ideal.exp_coe, sub_eq_add_neg, Real.exp_add]
  have hm : Real.exp (-m) ≠ 0 := (Real.exp_pos _).ne'
  have ht : (∑ k, Real.exp (s k)) ≠ 0 := (total_pos s j).ne'
  simp only [he]
  rw [← coe_sum, ← Finset.sum_mul, Ideal.div_coe (mul_ne_zero ht hm), ← EReal.coe_mul, weight]
  congr 1
  field_simp

end Cert.Softmax
-- ==== Proof.Reference.lean ====
/- The reference read at an index, one stage at a time. -/
module

public import proofs.«01_k».proof.Proof.Take
public import proofs.«01_k».proof.Proof.Softmax

@[expose] public section

set_option maxRecDepth 16384

noncomputable section

namespace Cert.Reference

open Idealize.ShloMosaic Idealize.ShloMosaic.TcCoe Idealize.ShloMosaic.Tactic
open Cert.ReferenceIdeal Cert.ReferenceIdeal.Gen Cert.ReferenceIdeal.Read

/-- The row of node `i` of graph `g`. -/
def node (g : Fin 8) (i : Fin 128) : Fin 1024 := ⟨g.val * 128 + i.val, by omega⟩

/-- The column of lane `d` of head `h`. -/
def lane (h : Fin 8) (d : Fin 32) : Fin 256 := ⟨h.val * 32 + d.val, by omega⟩

/-- The place of the edge between nodes `i` and `j` of graph `g` in the list of edges. -/
def edge (g : Fin 8) (i j : Fin 128) : Fin 131072 := ⟨g.val * 16384 + i.val * 128 + j.val, by omega⟩

/-- One entry of a projection: a row of the input against a row of the weights, plus the bias at an offset. -/
def projected (x : Vec Ideal S1024x256 .f32) (w : Vec Ideal S256x256 .f32) (b : Vec Ideal S768 .f32) (o : Fin 3) (r : Fin 1024)
    (c : Fin 256) : EReal :=
  (∑ k : Fin 256, x (ix2 r k) * w (ix2 c k)) + b (ix1 ⟨256 * o.val + c.val, by omega⟩)

variable (x0 x1 x2 : Vec Ideal S1024x256 .f32) (x5 : IVec S2x131072 32) (x6 x7 x8 x10 : Vec Ideal S256x256 .f32)
  (x9 : Vec Ideal S768 .f32) (x11 : Vec Ideal S256 .f32)

theorem q_apply (r : Fin 1024) (c : Fin 256) : val_main_v7 (F := Ideal) x0 x6 x9 (ix2 r c) = projected x0 x6 x9 0 r c := by
  unfold projected
  pointwise [val_main_v7, val_main_v6, val_main_v5, val_main_v4, val_main_v3, val_main_v0]

theorem k_apply (r : Fin 1024) (c : Fin 256) : val_main_v12 (F := Ideal) x1 x7 x9 (ix2 r c) = projected x1 x7 x9 1 r c := by
  unfold projected
  pointwise [val_main_v12, val_main_v11, val_main_v10, val_main_v9, val_main_v8, val_main_v1]

theorem v_apply (r : Fin 1024) (c : Fin 256) : val_main_v17 (F := Ideal) x2 x8 x9 (ix2 r c) = projected x2 x8 x9 2 r c := by
  unfold projected
  pointwise [val_main_v17, val_main_v16, val_main_v15, val_main_v14, val_main_v13, val_main_v2]

theorem head_q_apply (r : Fin 1024) (h : Fin 8) (d : Fin 32) :
    val_main_v21 (F := Ideal) x0 x6 x9 (ix3 r h d)
      = Ideal.div (projected x0 x6 x9 0 r (lane h d)) (Ideal.sqrt (Ideal.ofBits .f32 0x42000000#32)) := by
  rw [← q_apply]
  unfold lane
  pointwise [val_main_v21, val_main_v20, val_main_v19, val_main_v18, val_main_cst]

theorem head_k_apply (r : Fin 1024) (h : Fin 8) (d : Fin 32) :
    val_main_v22 (F := Ideal) x1 x7 x9 (ix3 r h d) = projected x1 x7 x9 1 r (lane h d) := by
  rw [← k_apply]
  unfold lane
  pointwise [val_main_v22]

theorem head_v_apply (r : Fin 1024) (h : Fin 8) (d : Fin 32) :
    val_main_v23 (F := Ideal) x2 x8 x9 (ix3 r h d) = projected x2 x8 x9 2 r (lane h d) := by
  rw [← v_apply]
  unfold lane
  pointwise [val_main_v23]

theorem from_apply (n : Fin 131072) : val_main_v25 (F := Ideal) x5 (ix1 n) = x5 (ix2 0 n) := by
  pointwise [val_main_v25, val_main_v24]

theorem to_apply (n : Fin 131072) : val_main_v28 (F := Ideal) x5 (ix1 n) = x5 (ix2 1 n) := by
  pointwise [val_main_v28, val_main_v27]

theorem to_again : val_main_v46 (F := Ideal) x5 = val_main_v28 (F := Ideal) x5 := rfl

theorem logit_apply (g : Fin 8) (i j : Fin 128) (h : Fin 8) :
    val_main_v32 (F := Ideal) x0 x1 x5 x6 x7 x9 (ix4 g i j h)
      = ∑ d : Fin 32, val_main_v26 (F := Ideal) x0 x5 x6 x9 (ix3 (edge g i j) h d)
          * val_main_v29 (F := Ideal) x1 x5 x7 x9 (ix3 (edge g i j) h d) := by
  unfold edge
  pointwise [val_main_v32, val_main_v31, val_main_v30, val_main_cst_0]

theorem neg_inf : Ideal.ofBits .f32 0xFF800000#32 = ⊥ := by simp [Ideal.ofBits, Ideal.ieee]

theorem top_apply (g : Fin 8) (i : Fin 128) (h : Fin 8) :
    val_main_v33 (F := Ideal) x0 x1 x5 x6 x7 x9 (ix3 g i h)
      = Finset.univ.fold max ⊥ fun j : Fin 128 => val_main_v32 (F := Ideal) x0 x1 x5 x6 x7 x9 (ix4 g i j h) := by
  rw [← neg_inf]
  pointwise [val_main_v33, val_main_cst_1]

theorem power_apply (g : Fin 8) (i j : Fin 128) (h : Fin 8) :
    val_main_v39 (F := Ideal) x0 x1 x5 x6 x7 x9 (ix4 g i j h)
      = Ideal.exp (val_main_v32 (F := Ideal) x0 x1 x5 x6 x7 x9 (ix4 g i j h)
          - val_main_v33 (F := Ideal) x0 x1 x5 x6 x7 x9 (ix3 g i h)) := by
  rw [← bot_sup_eq (val_main_v33 (F := Ideal) x0 x1 x5 x6 x7 x9 (ix3 g i h)), ← neg_inf]
  pointwise [val_main_v39, val_main_v38, val_main_v37, val_main_v36, val_main_v35, val_main_v34, val_main_cst_2]

theorem weight_apply (g : Fin 8) (i j : Fin 128) (h : Fin 8) :
    val_main_v44 (F := Ideal) x0 x1 x5 x6 x7 x9 (ix2 (edge g i j) h)
      = Ideal.div (val_main_v39 (F := Ideal) x0 x1 x5 x6 x7 x9 (ix4 g i j h))
          (∑ k : Fin 128, val_main_v39 (F := Ideal) x0 x1 x5 x6 x7 x9 (ix4 g i k h)) := by
  unfold edge
  pointwise [val_main_v44, val_main_v43, val_main_v42, val_main_v41, val_main_v40, val_main_cst_3]

theorem sum_apply (g : Fin 8) (i : Fin 128) (h : Fin 8) (d : Fin 32) :
    val_main_v53 (F := Ideal) x0 x1 x2 x5 x6 x7 x8 x9 (ix2 (node g i) (lane h d))
      = ∑ j : Fin 128, val_main_v44 (F := Ideal) x0 x1 x5 x6 x7 x9 (ix2 (edge g i j) h)
          * val_main_v47 (F := Ideal) x2 x5 x8 x9 (ix3 (edge g i j) h d) := by
  unfold edge node lane
  pointwise [val_main_v53, val_main_v52, val_main_v51, val_main_v50, val_main_v49, val_main_v48, val_main_cst_4]

theorem result_apply (r : Fin 1024) (o : Fin 256) :
    val_main_v58 (F := Ideal) x0 x1 x2 x5 x6 x7 x8 x9 x10 x11 (ix2 r o)
      = (∑ c : Fin 256, val_main_v53 (F := Ideal) x0 x1 x2 x5 x6 x7 x8 x9 (ix2 r c) * x10 (ix2 o c)) + x11 (ix1 o) := by
  pointwise [val_main_v58, val_main_v57, val_main_v56, val_main_v55, val_main_v54]

theorem mean_apply (n : Fin 131072) :
    val_main_v61 (F := Ideal) x0 x1 x5 x6 x7 x9 (ix1 n)
      = Ideal.div (∑ h : Fin 8, val_main_v44 (F := Ideal) x0 x1 x5 x6 x7 x9 (ix2 n h)) (Ideal.ofBits .f32 0x41000000#32) := by
  pointwise [val_main_v61, val_main_v60, val_main_v59, val_main_cst_5, val_main_cst_6]

end Cert.Reference
-- ==== Proof.ReferenceValue.lean ====
/- The reference's two results in closed form: softmax weights over each graph's nodes. -/
module

public import proofs.«01_k».proof.Proof.Reference
public import proofs.«01_k».proof.Proof.Softmax

@[expose] public section

set_option maxRecDepth 16384

noncomputable section

namespace Cert.Reference

open Idealize.ShloMosaic Idealize.ShloMosaic.TcCoe Idealize.ShloMosaic.Tactic
open Cert.ReferenceIdeal Cert.ReferenceIdeal.Gen Cert.ReferenceIdeal.Read Cert.Softmax

/-- The logits of a head between two nodes of a graph, from real query and key projections. -/
def logit (q k : Fin 1024 → Fin 256 → ℝ) (g : Fin 8) (h : Fin 8) (i j : Fin 128) : ℝ :=
  ∑ d : Fin 32, q (node g i) (lane h d) * (Real.sqrt 32)⁻¹ * k (node g j) (lane h d)

theorem root_eq : Ideal.sqrt (Ideal.ofBits .f32 0x42000000#32) = ((Real.sqrt 32 : ℝ) : EReal) := by
  rw [show Ideal.ofBits .f32 0x42000000#32 = ((32 : ℝ) : EReal) by
      simp [Ideal.ofBits, Ideal.ieee, ← EReal.coe_mul]; norm_num, Ideal.sqrt_coe, if_neg (by norm_num)]

theorem root_ne : Real.sqrt 32 ≠ 0 := (Real.sqrt_pos.2 (by norm_num)).ne'

/-- Every place of the list of edges is the place of some pair of nodes. -/
theorem edge_surj (n : Fin 131072) : ∃ (g : Fin 8) (i j : Fin 128), n = edge g i j :=
  ⟨⟨n.val / 16384, by omega⟩, ⟨n.val / 128 % 128, by omega⟩, ⟨n.val % 128, by omega⟩, Fin.ext (by
    show n.val = n.val / 16384 * 16384 + n.val / 128 % 128 * 128 + n.val % 128
    omega)⟩

/-- A list of edges names the row `f g i j` of every pair of nodes: the row numbers at every place. -/
theorem rows_of_edges {e : IVec S131072 32} {f : Fin 8 → Fin 128 → Fin 128 → Fin 1024}
    (h : ∀ g i j, e (ix1 (edge g i j)) = BitVec.ofNat 32 (f g i j).val) :
    ∃ r : Fin 131072 → Fin 1024, (∀ n, e (ix1 n) = BitVec.ofNat 32 (r n).val) ∧ ∀ g i j, r (edge g i j) = f g i j := by
  have hr : ∀ n, ∃ r : Fin 1024, e (ix1 n) = BitVec.ofNat 32 r.val := fun n => by
    obtain ⟨g, i, j, rfl⟩ := edge_surj n
    exact ⟨_, h g i j⟩
  choose r hr using hr
  refine ⟨r, hr, fun g i j => Fin.ext ?_⟩
  have := congrArg BitVec.toNat ((hr (edge g i j)).symm.trans (h g i j))
  simp only [BitVec.toNat_ofNat] at this
  omega

variable {x0 x1 x2 : Vec Ideal S1024x256 .f32} {x5 : IVec S2x131072 32} {x6 x7 x8 x10 : Vec Ideal S256x256 .f32}
  {x9 : Vec Ideal S768 .f32} {x11 : Vec Ideal S256 .f32} {q k : Fin 1024 → Fin 256 → ℝ}

/-- Rows picked by a full list of edges. -/
theorem take_edge {e : IVec S131072 32} {f : Fin 8 → Fin 128 → Fin 128 → Fin 1024}
    (h : ∀ g i j, e (ix1 (edge g i j)) = BitVec.ofNat 32 (f g i j).val) (x : Vec Ideal S1024x8x32 .f32) (g : Fin 8) (i j : Fin 128)
    (l : Fin 8) (d : Fin 32) : take x e (ix3 (edge g i j) l d) = x (ix3 (f g i j) l d) := by
  obtain ⟨r, hr, hf⟩ := rows_of_edges h
  rw [take_apply hr, hf]

/-- What the reference is run on: real query and key projections, and the full lists of edges. -/
structure Full (x0 x1 : Vec Ideal S1024x256 .f32) (x5 : IVec S2x131072 32) (x6 x7 : Vec Ideal S256x256 .f32) (x9 : Vec Ideal S768 .f32)
    (q k : Fin 1024 → Fin 256 → ℝ) : Prop where
  query : ∀ r c, projected x0 x6 x9 0 r c = (q r c : EReal)
  key : ∀ r c, projected x1 x7 x9 1 r c = (k r c : EReal)
  source : ∀ g i j, x5 (ix2 0 (edge g i j)) = BitVec.ofNat 32 (node g i).val
  target : ∀ g i j, x5 (ix2 1 (edge g i j)) = BitVec.ofNat 32 (node g j).val

theorem Full.sources (H : Full x0 x1 x5 x6 x7 x9 q k) (g : Fin 8) (i j : Fin 128) :
    val_main_v25 (F := Ideal) x5 (ix1 (edge g i j)) = BitVec.ofNat 32 (node g i).val := by rw [from_apply, H.source]

theorem Full.targets (H : Full x0 x1 x5 x6 x7 x9 q k) (g : Fin 8) (i j : Fin 128) :
    val_main_v28 (F := Ideal) x5 (ix1 (edge g i j)) = BitVec.ofNat 32 (node g j).val := by rw [to_apply, H.target]

theorem logit_eq (H : Full x0 x1 x5 x6 x7 x9 q k) (g : Fin 8) (i j : Fin 128) (h : Fin 8) :
    val_main_v32 (F := Ideal) x0 x1 x5 x6 x7 x9 (ix4 g i j h) = (logit q k g h i j : EReal) := by
  rw [logit_apply, logit, coe_sum]
  refine Finset.sum_congr rfl fun d _ => ?_
  rw [queries_eq, keys_eq, take_edge H.sources, take_edge H.targets, head_q_apply, head_k_apply, H.query, H.key, root_eq,
    Ideal.div_coe root_ne, ← EReal.coe_mul, ← EReal.coe_mul, one_div]

theorem weight_eq (H : Full x0 x1 x5 x6 x7 x9 q k) (g : Fin 8) (i j : Fin 128) (h : Fin 8) :
    val_main_v44 (F := Ideal) x0 x1 x5 x6 x7 x9 (ix2 (edge g i j) h) = (weight (logit q k g h i) j : EReal) := by
  have ht : IsReal (val_main_v33 (F := Ideal) x0 x1 x5 x6 x7 x9 (ix3 g i h)) := by
    rw [top_apply]
    exact fold_max_fin _ _ (fun j => ⟨_, logit_eq H g i j h⟩) Finset.univ_nonempty
  obtain ⟨t, ht⟩ := ht
  rw [weight_apply, ← shifted (logit q k g h i) t j]
  simp only [power_apply, ht, logit_eq H]

theorem sum_eq (H : Full x0 x1 x5 x6 x7 x9 q k) (g : Fin 8) (i : Fin 128) (h : Fin 8) (d : Fin 32) :
    val_main_v53 (F := Ideal) x0 x1 x2 x5 x6 x7 x8 x9 (ix2 (node g i) (lane h d))
      = ∑ j : Fin 128, (weight (logit q k g h i) j : EReal) * projected x2 x8 x9 2 (node g j) (lane h d) := by
  rw [sum_apply]
  refine Finset.sum_congr rfl fun j _ => ?_
  rw [weight_eq H, values_eq, to_again, take_edge H.targets, head_v_apply]

theorem mean_eq (H : Full x0 x1 x5 x6 x7 x9 q k) (g : Fin 8) (i j : Fin 128) :
    val_main_v61 (F := Ideal) x0 x1 x5 x6 x7 x9 (ix1 (edge g i j))
      = (∑ h : Fin 8, (weight (logit q k g h i) j : EReal)) * Ideal.ofBits .f32 0x3E000000#32 := by
  rw [mean_apply, show Ideal.ofBits .f32 0x41000000#32 = ((8 : ℝ) : EReal) by
      simp [Ideal.ofBits, Ideal.ieee, ← EReal.coe_mul]; norm_num,
    Ideal.div_coe (by norm_num), show Ideal.ofBits .f32 0x3E000000#32 = ((1 / 8 : ℝ) : EReal) by
      simp [Ideal.ofBits, Ideal.ieee, ← EReal.coe_mul]; norm_num]
  simp only [weight_eq H]

end Cert.Reference
-- ==== Proof.Input.lean ====
/- The blocks a grid point reads, as entries of the arguments: rows `512 t …` of the three inputs, the weights whole. -/
module

public import proofs.«01_k».proof.Proof.BlockValue
public import proofs.«01_k».proof.Proof.ReferenceValue
public import Idealize.ShloMosaic.Lib.Pipeline.Value
public import Idealize.ShloMosaic.Lib.StableHlo.Run

@[expose] public section

set_option maxRecDepth 16384

noncomputable section

namespace Cert.Block

open Idealize.ShloMosaic Idealize.ShloMosaic.TcCoe Idealize.ShloMosaic.Tactic
open Idealize.ShloMosaic.StableHlo (after_cons after_nil)
open Cert.KernelIdeal Cert.KernelIdeal.Gen

/-- The windows' block indices: the point along the rows of the inputs, zero elsewhere. -/
theorem index_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) := by decide +kernel

theorem index_whole : ∀ (t : Fin grid0.N) (a : Fin 2), win0_3.index t a = 0 ∧ win0_4.index t a = 0 ∧ win0_5.index t a = 0
    ∧ win0_6.index t a = 0 ∧ win0_7.index t a = 0 ∧ win0_8.index t a = 0 := by decide +kernel

variable (m : (ℓ : Loc nD τ sig) → Buf (Elt Ideal) ℓ) (c : Dev nD) (t : Fin cfg0.N)

theorem point_lt : t.val < 2 := t.isLt.trans_eq N_0

/-- The graph a point's block `b` of rows belongs to. -/
def graph (t : Fin cfg0.N) (b : Fin 4) : Fin 8 := ⟨4 * t.val + b.val, by have := point_lt t; omega⟩

/-- The row of the inputs that row `r` of a point's block is. -/
def row (t : Fin cfg0.N) (r : Fin 512) : Fin 1024 := ⟨t.val * 512 + r.val, by have := point_lt t; omega⟩

/-- The arguments as arrays. -/
abbrev query : Vec Ideal S1024x256 .f32 := m ((c : Thread nD τ).loc main_arg0)
abbrev key : Vec Ideal S1024x256 .f32 := m ((c : Thread nD τ).loc main_arg1)
abbrev value : Vec Ideal S1024x256 .f32 := m ((c : Thread nD τ).loc main_arg2)
abbrev edges : IVec S2x131072 32 := m ((c : Thread nD τ).loc main_arg5)
abbrev wq : Vec Ideal S256x256 .f32 := m ((c : Thread nD τ).loc main_arg6)
abbrev wk : Vec Ideal S256x256 .f32 := m ((c : Thread nD τ).loc main_arg7)
abbrev wv : Vec Ideal S256x256 .f32 := m ((c : Thread nD τ).loc main_arg8)
abbrev bias : Vec Ideal S768 .f32 := m ((c : Thread nD τ).loc main_arg9)
abbrev wo : Vec Ideal S256x256 .f32 := m ((c : Thread nD τ).loc main_arg10)
abbrev bo : Vec Ideal S256 .f32 := m ((c : Thread nD τ).loc main_arg11)

theorem query_block (r : Fin 512) (k : Fin 256) : (iblk m c 0 t : S512x256.Idx → EReal) (ix2 r k) = query m c (ix2 (row t r) k) := by
  show V m c main_arg0 ((win0_0.rect t).emb (ix2 r k)) = _
  rw [V_main_arg0]
  refine congrArg (query m c) (funext fun a => Fin.ext ?_)
  match a with
  | ⟨0, _⟩ => exact (win0_0.rect_emb_val t _ 0).trans (by rw [(index_rows t).1.1]; rfl)
  | ⟨1, _⟩ => exact win0_0.rect_emb_val_of_index_zero t 1 (index_rows t).1.2 _

theorem key_block (r : Fin 512) (k : Fin 256) : (iblk m c 1 t : S512x256.Idx → EReal) (ix2 r k) = key m c (ix2 (row t r) k) := by
  show V m c main_arg1 ((win0_1.rect t).emb (ix2 r k)) = _
  rw [V_main_arg1]
  refine congrArg (key m c) (funext fun a => Fin.ext ?_)
  match a with
  | ⟨0, _⟩ => exact (win0_1.rect_emb_val t _ 0).trans (by rw [(index_rows t).2.1.1]; rfl)
  | ⟨1, _⟩ => exact win0_1.rect_emb_val_of_index_zero t 1 (index_rows t).2.1.2 _

theorem value_block (r : Fin 512) (k : Fin 256) : (iblk m c 2 t : S512x256.Idx → EReal) (ix2 r k) = value m c (ix2 (row t r) k) := by
  show V m c main_arg2 ((win0_2.rect t).emb (ix2 r k)) = _
  rw [V_main_arg2]
  refine congrArg (value m c) (funext fun a => Fin.ext ?_)
  match a with
  | ⟨0, _⟩ => exact (win0_2.rect_emb_val t _ 0).trans (by rw [(index_rows t).2.2.1]; rfl)
  | ⟨1, _⟩ => exact win0_2.rect_emb_val_of_index_zero t 1 (index_rows t).2.2.2 _

theorem wq_block : (iblk m c 3 t : S256x256.Idx → EReal) = wq m c := funext fun y => by
  show V m c main_arg6 ((win0_3.rect t).emb y) = _
  rw [V_main_arg6]
  exact congrArg (wq m c) (funext fun a => Fin.ext (win0_3.rect_emb_val_of_index_zero t a (index_whole t a).1 _))

theorem wk_block : (iblk m c 4 t : S256x256.Idx → EReal) = wk m c := funext fun y => by
  show V m c main_arg7 ((win0_4.rect t).emb y) = _
  rw [V_main_arg7]
  exact congrArg (wk m c) (funext fun a => Fin.ext (win0_4.rect_emb_val_of_index_zero t a (index_whole t a).2.1 _))

theorem wv_block : (iblk m c 5 t : S256x256.Idx → EReal) = wv m c := funext fun y => by
  show V m c main_arg8 ((win0_5.rect t).emb y) = _
  rw [V_main_arg8]
  exact congrArg (wv m c) (funext fun a => Fin.ext (win0_5.rect_emb_val_of_index_zero t a (index_whole t a).2.2.1 _))

theorem wo_block : (iblk m c 7 t : S256x256.Idx → EReal) = wo m c := funext fun y => by
  show V m c main_arg10 ((win0_7.rect t).emb y) = _
  rw [V_main_arg10]
  exact congrArg (wo m c) (funext fun a => Fin.ext (win0_7.rect_emb_val_of_index_zero t a (index_whole t a).2.2.2.2.1 _))

/-- The two biases reach the kernel as one-row matrices. -/
theorem bias_entry : (V m c main_v0 : S1x768.Idx → EReal) = shapeCast S1x768 (bias m c) shapeCasts_S768_S1x768 := by
  show StableHlo.after (List.flatten [hostOps0]) (fun b => m (c, b)) (Proc.devRef .tc main_v0) = _
  simp only [hostOps0, List.flatten_cons, List.flatten_nil, List.append_nil]
  after_results
  rfl

theorem bo_entry : (V m c main_v1 : S1x256.Idx → EReal) = shapeCast S1x256 (bo m c) shapeCasts_S256_S1x256 := by
  show StableHlo.after (List.flatten [hostOps0]) (fun b => m (c, b)) (Proc.devRef .tc main_v1) = _
  simp only [hostOps0, List.flatten_cons, List.flatten_nil, List.append_nil]
  after_results
  rfl

theorem bias_block (j : Fin 768) : (iblk m c 6 t : S1x768.Idx → EReal) (ix2 0 j) = bias m c (ix1 j) := by
  show (V m c main_v0 : S1x768.Idx → EReal) ((win0_6.rect t).emb (ix2 0 j)) = _
  rw [show (win0_6.rect t).emb (ix2 0 j) = (ix2 0 j : S1x768.Idx) from
    funext fun a => Fin.ext (win0_6.rect_emb_val_of_index_zero t a (index_whole t a).2.2.2.1 _), bias_entry]
  pointwise []

theorem bo_block (j : Fin 256) : (iblk m c 8 t : S1x256.Idx → EReal) (ix2 0 j) = bo m c (ix1 j) := by
  show (V m c main_v1 : S1x256.Idx → EReal) ((win0_8.rect t).emb (ix2 0 j)) = _
  rw [show (win0_8.rect t).emb (ix2 0 j) = (ix2 0 j : S1x256.Idx) from
    funext fun a => Fin.ext (win0_8.rect_emb_val_of_index_zero t a (index_whole t a).2.2.2.2.2 _), bo_entry]
  pointwise []

end Cert.Block
-- ==== Proof.Point.lean ====
/- One grid point against the reference: the two output blocks of a point hold the entries of the reference's results. -/
module

public import proofs.«01_k».proof.Proof.Input

@[expose] public section

set_option maxRecDepth 16384

noncomputable section

namespace Cert.Block

open Idealize.ShloMosaic Idealize.ShloMosaic.TcCoe Idealize.ShloMosaic.Tactic
open Cert.KernelIdeal Cert.KernelIdeal.Gen Cert.Reference Cert.Softmax Cert.ReferenceIdeal.Read

variable (m : (ℓ : Loc nD τ sig) → Buf (Elt Ideal) ℓ) (c : Dev nD) (t : Fin cfg0.N)

/-- The projections of a point's rows are the reference's; the queries carry the scale. -/
theorem qAt_apply (r : Fin 512) (l : Fin 256) : qAt m c t (ix2 r l)
    = projected (query m c) (wq m c) (bias m c) 0 (row t r) l * (((Real.log 2)⁻¹ * (Real.sqrt 32)⁻¹ : ℝ) : EReal) := by
  rw [qAt, qBlock_apply, projected, wq_block, bias_block]
  simp only [query_block]
  rw [show (⟨256 * (0 : Fin 3).val + l.val, by omega⟩ : Fin 768) = ⟨l.val, by omega⟩ from Fin.ext (Nat.zero_add _)]

theorem kAt_apply (r : Fin 512) (l : Fin 256) : kAt m c t (ix2 r l) = projected (key m c) (wk m c) (bias m c) 1 (row t r) l := by
  rw [kAt, kBlock_apply, projected, wk_block, bias_block]
  simp only [key_block]
  rfl

theorem vAt_apply (r : Fin 512) (l : Fin 256) : vAt m c t (ix2 r l) = projected (value m c) (wv m c) (bias m c) 2 (row t r) l := by
  rw [vAt, vBlock_apply, projected, wv_block, bias_block]
  simp only [value_block]
  rfl

/-- Row `i` of a point's graph `b` is node `i` of that graph; column `d` of head `h` is that head's lane. -/
theorem row_node (b : Fin 4) (i : Fin 128) : row t ⟨128 * b.val + i.val, by omega⟩ = node (graph t b) i :=
  Fin.ext (by show t.val * 512 + (128 * b.val + i.val) = (4 * t.val + b.val) * 128 + i.val; omega)

theorem col_lane (h : Fin 8) (d : Fin 32) : (⟨32 * h.val + d.val, by omega⟩ : Fin 256) = lane h d :=
  Fin.ext (by show 32 * h.val + d.val = h.val * 32 + d.val; omega)

variable {m c} {q k : Fin 1024 → Fin 256 → ℝ} (H : Full (query m c) (key m c) (edges m c) (wq m c) (wk m c) (bias m c) q k)
include H

/-- The powers of two the kernel takes are the exponentials of the reference's logits. -/
theorem powers_eq (b : Fin 4) (h : Fin 8) (i j : Fin 128) :
    k0_pay5 (slab (qAt m c t) b h) (slab (kAt m c t) b h) (ix2 i j) = (Real.exp (logit q k (graph t b) h i j) : EReal) := by
  rw [powers_apply, ← exp2_scaled]
  refine congrArg Ideal.exp2 ?_
  rw [logit, Finset.sum_mul, coe_sum]
  refine Finset.sum_congr rfl fun d _ => ?_
  rw [slab_apply, slab_apply, qAt_apply, kAt_apply, row_node, row_node, col_lane, H.query, H.key, ← EReal.coe_mul, ← EReal.coe_mul]
  exact congrArg _ (by ring)

theorem recip_eq (b : Fin 4) (h : Fin 8) (i : Fin 128) :
    k0_pay6 (slab (qAt m c t) b h) (slab (kAt m c t) b h) (ix2 i 0)
      = (((∑ j : Fin 128, Real.exp (logit q k (graph t b) h i j))⁻¹ : ℝ) : EReal) := by
  rw [recip_apply, ← recip_total (logit q k (graph t b) h i) i]
  simp only [powers_eq t H]

/-- The kernel's weights are the reference's softmax weights. -/
theorem share_eq (b : Fin 4) (h : Fin 8) (i j : Fin 128) :
    share (slab (qAt m c t) b h) (slab (kAt m c t) b h) (ix2 i j) = (weight (logit q k (graph t b) h i) j : EReal) := by
  rw [share_apply, powers_eq t H, recip_eq t H, exp_mul_recip]

/-- The attended values are the reference's weighted sums. -/
theorem attended_eq (b : Fin 4) (h : Fin 8) (i : Fin 128) (d : Fin 32) :
    attended (qAt m c t) (kAt m c t) (vAt m c t) b h (ix2 i d)
      = val_main_v53 (F := Ideal) (query m c) (key m c) (value m c) (edges m c) (wq m c) (wk m c) (wv m c) (bias m c)
          (ix2 (node (graph t b) i) (lane h d)) := by
  rw [sum_eq H, attended_apply, recip_eq t H, ← sum_exp_mul_recip (logit q k (graph t b) h i) i]
  simp only [powers_eq t H, slab_apply, vAt_apply, row_node, col_lane]

/-- The point's block of the first result. -/
theorem out_entry (r : Fin 512) (o : Fin 256) : ((outsAt0 m c t).1 : S512x256.Idx → EReal) (ix2 r o)
    = val_main_v58 (F := Ideal) (query m c) (key m c) (value m c) (edges m c) (wq m c) (wk m c) (wv m c) (bias m c) (wo m c) (bo m c)
        (ix2 (row t r) o) := by
  have hl : ∀ l : Fin 256, View.canon (attendedPieces (qAt m c t) (kAt m c t) (vAt m c t)) (ix2 r l)
      = val_main_v53 (F := Ideal) (query m c) (key m c) (value m c) (edges m c) (wq m c) (wk m c) (wv m c) (bias m c) (ix2 (row t r) l) := by
    intro l
    obtain ⟨b, i, rfl⟩ : ∃ (b : Fin 4) (i : Fin 128), r = ⟨128 * b.val + i.val, by omega⟩ :=
      ⟨⟨r.val / 128, by omega⟩, ⟨r.val % 128, by omega⟩, Fin.ext (Nat.div_add_mod r.val 128).symm⟩
    obtain ⟨h, d, rfl⟩ : ∃ (h : Fin 8) (d : Fin 32), l = ⟨32 * h.val + d.val, by omega⟩ :=
      ⟨⟨l.val / 32, by omega⟩, ⟨l.val % 32, by omega⟩, Fin.ext (Nat.div_add_mod l.val 32).symm⟩
    rw [attended_canon, attended_eq t H, row_node, col_lane]
  rw [out_block, out_apply, result_apply, wo_block, bo_block]
  simp only [hl]

/-- The point's block of the second result. -/
theorem weights_entry (b : Fin 4) (i j : Fin 128) : ((outsAt0 m c t).2 : S4x128x128.Idx → EReal) (ix3 b i j)
    = val_main_v61 (F := Ideal) (query m c) (key m c) (edges m c) (wq m c) (wk m c) (bias m c) (ix1 (edge (graph t b) i j)) := by
  rw [weights_block, mean_canon, meanShare_apply, mean_eq H]
  simp only [share_eq t H]

end Cert.Block
-- ==== Proof.PreRead.lean ====
/- What the precondition says: the inputs of the two logit projections are finite, and the edge lists are the full ones. -/
module

public import proofs.«01_k».proof.Pre_logits_finite_edges_full
public import proofs.«01_k».proof.Proof.Softmax
public import Idealize.ShloMosaic.Lib.Pointwise
public import Idealize.ShloMosaic.Lib.ReduceAll
public import Idealize.ShloMosaic.PureOps.Ideal.Laws

@[expose] public section

set_option maxRecDepth 16384

noncomputable section

namespace Cert.PreRead

open Idealize.ShloMosaic Idealize.ShloMosaic.TcCoe Idealize.ShloMosaic.Tactic
open Cert.Pre_logits_finite_edges_full Cert.Softmax

instance facts : Facts where
  bcast_S_S1024x256 := by decide
  reducesTo_S1024x256_S_d0_1 := by decide
  h_S_ := by decide
  bcast_S_S256x256 := by decide
  reducesTo_S256x256_S_d0_1 := by decide
  slices_S768_S512_0 := by decide
  bcast_S_S512 := by decide
  reducesTo_S512_S_d0 := by decide
  slices_S2x131072_S1x131072_0_0 := by decide
  shapeCasts_S1x131072_S131072 := by decide
  shapeCasts_S131072_S8x128x128 := by decide
  bcast_S_S8x128x128 := by decide
  reducesTo_S8x128x128_S_d0_1_2 := by decide
  slices_S2x131072_S1x131072_1_0 := by decide

/-- Below infinity in absolute value: a real number. -/
theorem real_of_abs_lt {x : EReal} (h : max x (-x) < ⊤) : IsReal x := by
  induction x with
  | bot => simp at h
  | top => simp at h
  | coe r => exact ⟨r, rfl⟩

theorem pos_inf : Ideal.ofBits .f32 0x7F800000#32 = ⊤ := by simp [Ideal.ofBits, Ideal.ieee]

/-- One entry's finiteness test. -/
theorem real_of_test {x : EReal} (h : Ideal.cmp .olt (max x (-x)) (Ideal.ofBits .f32 0x7F800000#32) = 1#1) : IsReal x := by
  rw [pos_inf] at h
  refine real_of_abs_lt ?_
  by_contra hn
  rw [show Ideal.cmp .olt (max x (-x)) ⊤ = BitVec.ofBool (decide (max x (-x) < ⊤)) from rfl, decide_eq_false hn] at h
  exact absurd h (by decide)

theorem and_one : ∀ {a b : BitVec 1}, IntOp.andi a b = 1#1 → a = 1#1 ∧ b = 1#1 := by decide

/-- One edge's test: the listed number is `128 g + i`. -/
theorem edge_of_test {x : BitVec 32} {g i : Nat}
    (h : IntOp.cmpi .eq x (IntOp.addi (IntOp.muli (BitVec.ofNat 32 g) 128#32) (BitVec.ofNat 32 i)) = 1#1) :
    x = BitVec.ofNat 32 (g * 128 + i) := by
  have he : x = IntOp.addi (IntOp.muli (BitVec.ofNat 32 g) 128#32) (BitVec.ofNat 32 i) := by
    by_contra hn
    have : IntOp.cmpi .eq x (IntOp.addi (IntOp.muli (BitVec.ofNat 32 g) 128#32) (BitVec.ofNat 32 i)) = 0#1 := by
      show BitVec.ofBool (x == _) = 0#1
      rw [beq_eq_false_iff_ne.2 hn]
      rfl
    rw [this] at h
    exact absurd h (by decide)
  rw [he, BitVec.ofNat_add, BitVec.ofNat_mul]
  rfl

variable (a0 a1 a2 : FVec Ideal S1024x256 .f32) (a3 a4 : IVec S1024 32) (a5 : IVec S2x131072 32) (a6 a7 a8 : FVec Ideal S256x256 .f32)
  (a9 : FVec Ideal S768 .f32) (a10 : FVec Ideal S256x256 .f32) (a11 : FVec Ideal S256 .f32)

/-- The precondition in words. -/
structure Says : Prop where
  query : ∀ r k, IsReal (a0 (ix2 r k))
  key : ∀ r k, IsReal (a1 (ix2 r k))
  queryWeight : ∀ r k, IsReal (a6 (ix2 r k))
  keyWeight : ∀ r k, IsReal (a7 (ix2 r k))
  bias : ∀ c : Fin 512, IsReal (a9 (ix1 ⟨c.val, by omega⟩))
  source : ∀ (g : Fin 8) (i j : Fin 128),
    a5 (ix2 0 ⟨g.val * 16384 + i.val * 128 + j.val, by omega⟩) = BitVec.ofNat 32 (g.val * 128 + i.val)
  target : ∀ (g : Fin 8) (i j : Fin 128),
    a5 (ix2 1 ⟨g.val * 16384 + i.val * 128 + j.val, by omega⟩) = BitVec.ofNat 32 (g.val * 128 + j.val)

instance : Subsingleton S_.Idx := ⟨fun a b => funext fun i => i.elim0⟩

open Facts in
theorem read_fn (h : fn (F := Ideal) a0 a1 a2 a3 a4 a5 a6 a7 a8 a9 a10 a11 = fun _ => 1#1) : Says a0 a1 a5 a6 a7 a9 := by
  have e : fn (F := Ideal) a0 a1 a2 a3 a4 a5 a6 a7 a8 a9 a10 a11 (Shape.Idx.first h_S_) = 1#1 := congrFun h _
  unfold fn fn_part1 fn_part2 at e
  obtain ⟨e, hTarget⟩ := and_one e
  obtain ⟨e, hSource⟩ := and_one e
  obtain ⟨e, hBias⟩ := and_one e
  obtain ⟨e, hKeyWeight⟩ := and_one e
  obtain ⟨e, hQueryWeight⟩ := and_one e
  obtain ⟨hQuery, hKey⟩ := and_one e
  refine ⟨fun r k => real_of_test (Host.reduce_andi_all _ _ _ _ _ hQuery (ix2 r k)),
    fun r k => real_of_test (Host.reduce_andi_all _ _ _ _ _ hKey (ix2 r k)),
    fun r k => real_of_test (Host.reduce_andi_all _ _ _ _ _ hQueryWeight (ix2 r k)),
    fun r k => real_of_test (Host.reduce_andi_all _ _ _ _ _ hKeyWeight (ix2 r k)), fun c => ?_, fun g i j => ?_, fun g i j => ?_⟩
  · have t := Host.reduce_andi_all _ _ _ _ _ hBias (ix1 c)
    refine real_of_test (Eq.trans ?_ t)
    pointwise []
    rfl
  · have t := Host.reduce_andi_all _ _ _ _ _ hSource (ix3 g i j)
    refine edge_of_test (Eq.trans ?_ t)
    pointwise []
  · have t := Host.reduce_andi_all _ _ _ _ _ hTarget (ix3 g i j)
    refine edge_of_test (Eq.trans ?_ t)
    pointwise []

end Cert.PreRead
-- ==== Proof.Final.lean ====
/- The kernel's two results after the run: from each point's blocks to the whole arrays, and what the launch leaves. -/
module

public import proofs.«01_k».proof.Proof.Point
public import proofs.«01_k».proof.Proof.PreRead

@[expose] public section

set_option maxRecDepth 16384

noncomputable section

namespace Cert.Final

open Idealize.ShloMosaic Idealize.ShloMosaic.TcCoe Idealize.ShloMosaic.Tactic Idealize.SL.Sem
open Idealize.ShloMosaic.StableHlo (after_cons after_nil)
open Cert.KernelIdeal Cert.KernelIdeal.Gen Cert.Block Cert.Reference Cert.Softmax Cert.ReferenceIdeal.Read

variable {m : (ℓ : Loc nD τ sig) → Buf (Elt Ideal) ℓ} {c : Dev nD} {q k : Fin 1024 → Fin 256 → ℝ}

/-- The first result of the reference on the kernel's arguments. -/
abbrev output (m : (ℓ : Loc nD τ sig) → Buf (Elt Ideal) ℓ) (c : Dev nD) : Vec Ideal S1024x256 .f32 :=
  val_main_v58 (F := Ideal) (query m c) (key m c) (value m c) (edges m c) (wq m c) (wk m c) (wv m c) (bias m c) (wo m c) (bo m c)

/-- The second result of the reference on the kernel's arguments. -/
abbrev weights (m : (ℓ : Loc nD τ sig) → Buf (Elt Ideal) ℓ) (c : Dev nD) : Vec Ideal S131072 .f32 :=
  val_main_v61 (F := Ideal) (query m c) (key m c) (edges m c) (wq m c) (wk m c) (bias m c)

/-- The mean weights laid out by graph, row and column. -/
def weights3 (m : (ℓ : Loc nD τ sig) → Buf (Elt Ideal) ℓ) (c : Dev nD) : Vec Ideal S8x128x128 .f32 :=
  fun y => weights m c (ix1 (edge (y 0) (y 1) (y 2)))

/-- The block indices of the two results. -/
theorem index_out : ∀ t : Fin grid0.N, (win0_9.index t 0 = t.val ∧ win0_9.index t 1 = 0)
    ∧ (win0_10.index t 0 = t.val ∧ win0_10.index t 1 = 0 ∧ win0_10.index t 2 = 0) := by decide +kernel

theorem out_emb (t : Fin cfg0.N) (y : S512x256.Idx) : (win0_9.rect t).emb y = (ix2 (row t (y 0)) (y 1) : S1024x256.Idx) :=
  funext fun a => Fin.ext <| by
    match a with
    | ⟨0, _⟩ => exact (win0_9.rect_emb_val t _ 0).trans (by rw [(index_out t).1.1]; rfl)
    | ⟨1, _⟩ => exact win0_9.rect_emb_val_of_index_zero t 1 (index_out t).1.2 _

theorem weights_emb (t : Fin cfg0.N) (y : S4x128x128.Idx) :
    (win0_10.rect t).emb y = (ix3 (graph t (y 0)) (y 1) (y 2) : S8x128x128.Idx) :=
  funext fun a => Fin.ext <| by
    match a with
    | ⟨0, _⟩ => exact (win0_10.rect_emb_val t _ 0).trans (by
        rw [(index_out t).2.1]; show t.val * 4 + (y 0).val = 4 * t.val + (y 0).val; rw [Nat.mul_comm])
    | ⟨1, _⟩ => exact win0_10.rect_emb_val_of_index_zero t 1 (index_out t).2.2.1 _
    | ⟨2, _⟩ => exact win0_10.rect_emb_val_of_index_zero t 2 (index_out t).2.2.2 _

/-- Flattening the mean weights lays them out along the list of edges. -/
theorem weights_flat : shapeCast S131072 (weights3 m c) shapeCasts_S8x128x128_S131072 = weights m c := by
  funext n
  obtain ⟨g, i, j, e⟩ := edge_surj (n 0)
  obtain rfl : n = ix1 (edge g i j) := funext fun a => by match a with | ⟨0, _⟩ => exact e
  have h : (shapeCast S131072 (weights3 m c) shapeCasts_S8x128x128_S131072) (ix1 (edge g i j)) = weights3 m c (ix3 g i j) := by
    simp only [edge]
    pointwise []
  exact h

section
variable (H : Full (query m c) (key m c) (edges m c) (wq m c) (wk m c) (bias m c) q k)
include H

/-- The array of the first result after the run is the reference's. -/
theorem out_array : (dats m 0 c).arrAt 9 cfg0.N = output m c := by
  refine (dats m 0 c).arrAt_eq_of_covers 9 _ (by decide +kernel) fun t _ y => ?_
  show ((dats m 0 c).after 9 t : S512x256.Idx → EReal) y = output m c ((win0_9.rect t).emb y)
  rw [after0_9, out_emb]
  exact (congrArg _ (eq_ix2 (n0 := 512) (n1 := 256) y)).trans (out_entry t H (y 0) (y 1))

/-- The array of the mean weights after the run. -/
theorem weights_array : (dats m 0 c).arrAt 10 cfg0.N = weights3 m c := by
  refine (dats m 0 c).arrAt_eq_of_covers 10 _ (by decide +kernel) fun t _ y => ?_
  show ((dats m 0 c).after 10 t : S4x128x128.Idx → EReal) y = weights3 m c ((win0_10.rect t).emb y)
  rw [after0_10, weights_emb, weights3]
  exact (congrArg _ (eq_ix3 (n0 := 4) (n1 := 128) (n2 := 128) y)).trans (weights_entry t H (y 0) (y 1) (y 2))

/-- What the reshape after the kernel leaves. -/
theorem tail : (Pipeline.afterTail₀ cfgs (dats m) 0 (V0 m) [hostOps1] c main_v3 : S131072.Idx → EReal) = weights m c := by
  unfold Pipeline.afterTail₀
  simp only [hostOps1, List.flatten_cons, List.flatten_nil, List.append_nil]
  after_results
  rw [← weights_flat (m := m) (c := c), ← weights_array H]
  exact congrArg (fun x : S8x128x128.Idx → EReal => shapeCast S131072 x shapeCasts_S8x128x128_S131072)
    (Pipeline.withArrays_arr spec0 launch0.win.arr_inj c (V0 m c) (fun w => (dats m 0 c).arrAt w cfg0.N) 10)

end

/-- The two results the launch leaves, on every core. -/
theorem results (ρ : Dev nD → PrngReg) (hm : ∀ c : Dev nD, ∃ q k, Full (query m c) (key m c) (edges m c) (wq m c) (wk m c) (bias m c) q k) :
    θ_run defs (onTc (τ := τ) (main (F := Ideal))) ⟨m, fun _ => 0, ρ⟩ fun r => ∀ c : Dev nD,
      r.2.mem ((c.tc : Thread nD τ).loc main_v2_0) = output m c ∧ r.2.mem ((c.tc : Thread nD τ).loc main_v3) = weights m c :=
  (θ_run defs _ _).mono (fun r h c => by
    obtain ⟨q, k, H⟩ := hm c
    exact ⟨((h c).1 9).trans (out_array H), ((h c).2 main_v3 (Pipeline.mem_restRefs_of main_v3 (by decide) (by decide))).trans (tail H)⟩)
    (run_main m ρ)

/-- The precondition gives real projections and the full lists of edges. -/
theorem full_of_says (h : PreRead.Says (query m c) (key m c) (edges m c) (wq m c) (wk m c) (bias m c)) :
    ∃ q k, Full (query m c) (key m c) (edges m c) (wq m c) (wk m c) (bias m c) q k := by
  have hq : ∀ r l, IsReal (projected (query m c) (wq m c) (bias m c) 0 r l) := fun r l =>
    (IsReal.sum _ _ fun k => (h.query r k).mul (h.queryWeight l k)).add (h.bias ⟨256 * 0 + l.val, by omega⟩)
  have hk : ∀ r l, IsReal (projected (key m c) (wk m c) (bias m c) 1 r l) := fun r l =>
    (IsReal.sum _ _ fun k => (h.key r k).mul (h.keyWeight l k)).add (h.bias ⟨256 * 1 + l.val, by omega⟩)
  choose q hq using hq
  choose k hk using hk
  exact ⟨q, k, hq, hk, h.source, h.target⟩

end Cert.Final
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem

/-- The host reference terminates, keeps its arguments, and has no semaphores to leave raised. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel's scale is the named constant. -/
theorem scale_named : Cert.preserves_Kernel_KernelIdeal :=
  IdealRules.named_const.statement Cert.KernelIdeal.κ "log2e_over_root" .f32 0x3E8293EE#32 _ rfl

/-- Kernel and reference leave the same two results. -/
theorem same_results : Cert.algebraic_KernelIdeal_ReferenceIdeal_pre_logits_finite_edges_full (hKernelIdeal := Cert.KernelIdeal.Gen.facts)
    (hReferenceIdeal := Cert.ReferenceIdeal.Gen.facts) (hPre_logits_finite_edges_full := Cert.PreRead.facts) := by
  intro m g m' g' hpre hargs
  refine ⟨fun c => Cert.Final.output m c, fun c => Cert.Final.weights m c, ?_, ?_⟩
  · refine (θ_run Cert.KernelIdeal.defs _ _).mono (fun r h c => ⟨(h.1 c).1, (h.1 c).2, h.2 c⟩)
      (θ_run_and (Cert.Final.results g fun c => Cert.Final.full_of_says (Cert.PreRead.read_fn _ _ _ _ _ _ _ _ _ _ _ _ (hpre c)))
        (Cert.KernelIdeal.Gen.unchanged m g))
  · refine (θ_run Cert.ReferenceIdeal.defs _ _).mono (fun r h c => ⟨(h c).1.trans ?_, (h c).2.1.trans ?_, (h c).2.2⟩)
      (Cert.ReferenceIdeal.Value.run (F := Ideal) m' g')
    · obtain ⟨h0, h1, h2, h3, h4, h5, h6, h7, h8, h9, h10, h11⟩ := hargs c
      rw [Cert.ReferenceIdeal.Read.val_main_v58_eq, h0, h1, h2, h5, h6, h7, h8, h9, h10, h11]
    · obtain ⟨h0, h1, h2, h3, h4, h5, h6, h7, h8, h9, h10, h11⟩ := hargs c
      rw [Cert.ReferenceIdeal.Read.val_main_v61_eq, h0, h1, h5, h6, h7, h9]

theorem claim : Cert.Claim :=
  ⟨Cert.Kernel.Gen.facts, Cert.KernelIdeal.Gen.facts, Cert.ReferenceIdeal.Gen.facts, Cert.PreRead.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, scale_named, same_results⟩

end Cert.Proof

end
